-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S4x1024x32x128 : S_.BroadcastsInDim S4x1024x32x128 (![] : Fin 0 → Fin S4x1024x32x128.rank)

variable [Facts]

def fn {F : FTy → Type} [FloatOps F] (main_arg0 : FVec F S1x1024x1024 .f32) (main_arg1 : FVec F S1024x1024 .f32) (main_arg2 : FVec F S4x1024x32x128 .f32) (main_arg3 : FVec F S4x1024x32x128 .f32) (main_arg4 : FVec F S1024x1024 .f32) : IVec S1x1024x1024 1 × IVec S1024x1024 1 × IVec S4x1024x32x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x1024x32x128 .f32 := Host.absf main_arg2
  let main_cst_1 : FVec F S_ .f32 := constant S_ .f32 0x7F800000#32
  let main_v7 : FVec F S4x1024x32x128 .f32 := broadcastInDim S4x1024x32x128 ![] bcast_S_S4x1024x32x128 main_cst_1
  let main_v8 : IVec S4x1024x32x128 1 := cmpf .olt main_v6 main_v7
  (main_v2, main_v5, main_v8)
-- ==== Pre_finite_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  bcast_S_S1024x4096 : S_.BroadcastsInDim S1024x4096 (![] : Fin 0 → Fin S1024x4096.rank)
  bcast_S_S4x1024x32x128 : S_.BroadcastsInDim S4x1024x32x128 (![] : Fin 0 → Fin S4x1024x32x128.rank)

variable [Facts]

def fn {F : FTy → Type} [FloatOps F] (main_arg0 : FVec F S4x1024x1024 .f32) (main_arg1 : FVec F S1024x4096 .f32) (main_arg2 : FVec F S4x1024x32x128 .f32) (main_arg3 : FVec F S4x1024x32x128 .f32) (main_arg4 : FVec F S4096x1024 .f32) : IVec S4x1024x1024 1 × IVec S1024x4096 1 × IVec S4x1024x32x128 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4x1024x32x128 .f32 := Host.absf main_arg2
  let main_cst_1 : FVec F S_ .f32 := constant S_ .f32 0x7F800000#32
  let main_v7 : FVec F S4x1024x32x128 .f32 := broadcastInDim S4x1024x32x128 ![] bcast_S_S4x1024x32x128 main_cst_1
  let main_v8 : IVec S4x1024x32x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S4x2x1024x1024 : Shape := ⟨4, ![4, 2, 1024, 1024]⟩
abbrev S1024x8x128 : Shape := ⟨3, ![1024, 8, 128]⟩
abbrev S8x1024x128 : Shape := ⟨3, ![8, 1024, 128]⟩
abbrev S4x1024x1024 : Shape := ⟨3, ![4, 1024, 1024]⟩
abbrev S8 : Shape := ⟨1, ![8]⟩
abbrev S2 : Shape := ⟨1, ![2]⟩
abbrev S1 : Shape := ⟨1, ![1]⟩
abbrev S_ : Shape := ⟨0, ![]⟩
abbrev S1x1x1024x1024 : Shape := ⟨4, ![1, 1, 1024, 1024]⟩
abbrev S64x8x128 : Shape := ⟨3, ![64, 8, 128]⟩
abbrev S1x64x8x128 : Shape := ⟨4, ![1, 64, 8, 128]⟩
abbrev S1x64x1024 : Shape := ⟨3, ![1, 64, 1024]⟩
abbrev S64x1024 : Shape := ⟨2, ![64, 1024]⟩
abbrev S1x1024x128 : Shape := ⟨3, ![1, 1024, 128]⟩
abbrev S1024x128 : Shape := ⟨2, ![1024, 128]⟩
abbrev S1024x1x128 : Shape := ⟨3, ![1024, 1, 128]⟩
abbrev S4x256x128 : Shape := ⟨3, ![4, 256, 128]⟩
abbrev S4x256x256 : Shape := ⟨3, ![4, 256, 256]⟩
abbrev S4x256 : Shape := ⟨2, ![4, 256]⟩
abbrev S4x256x1 : Shape := ⟨3, ![4, 256, 1]⟩
abbrev S1x1x1024x512 : Shape := ⟨4, ![1, 1, 1024, 512]⟩
abbrev S1024x512 : Shape := ⟨2, ![1024, 512]⟩
abbrev S1x1x512x1024 : Shape := ⟨4, ![1, 1, 512, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S1x1024x1024, .bf16⟩
  | .hbm, ⟨6, _⟩ => ⟨S1024x1024, .bf16⟩
  | .hbm, ⟨7, _⟩ => ⟨S1024x1024, .bf16⟩
  | .hbm, ⟨8, _⟩ => ⟨S1x1024x1024, .f32⟩
  | .local _ .vmem, ⟨0, _⟩ => ⟨S1x1024x1024, .bf16⟩
  | .local _ .vmem, ⟨1, _⟩ => ⟨S1x1024x1024, .f32⟩
  | .local _ .vmem, ⟨2, _⟩ => ⟨S4x2x1024x1024, .bf16⟩
  | .local _ .vmem, ⟨3, _⟩ => ⟨S1024x8x128, .f32⟩
  | .local _ .vmem, ⟨4, _⟩ => ⟨S1024x8x128, .f32⟩
  | .local _ .vmem, ⟨5, _⟩ => ⟨S8x1024x128, .f32⟩
  | .local _ .vmem, ⟨6, _⟩ => ⟨S8x1024x128, .f32⟩
  | .local _ .vmem, ⟨7, _⟩ => ⟨S4x1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_19 : BitVec 32 := 0#32
  let c8_i32 : BitVec 32 := 8#32
  let v18 : BitVec 32 := Scalar.muli v2 c8_i32
  let c0_i32_20 : BitVec 32 := 0#32
  ![v2.toNat, 0, v18.toNat, 0]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let c8_i32_28 : BitVec 32 := 8#32
  let v30 : BitVec 32 := Scalar.muli v2 c8_i32_28
  let c0_i32_32 : BitVec 32 := 0#32
  ![v2.toNat, 256, v30.toNat, 0]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let c8_i32_40 : BitVec 32 := 8#32
  let v42 : BitVec 32 := Scalar.muli v2 c8_i32_40
  let c0_i32_44 : BitVec 32 := 0#32
  ![v2.toNat, 512, v42.toNat, 0]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32 : BitVec 32 := 768#32
  let c8_i32_52 : BitVec 32 := 8#32
  let v54 : BitVec 32 := Scalar.muli v2 c8_i32_52
  let c0_i32_56 : BitVec 32 := 0#32
  ![v2.toNat, 768, v54.toNat, 0]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_69 : BitVec 32 := 64#32
  let c8_i32_64 : BitVec 32 := 8#32
  let v66 : BitVec 32 := Scalar.muli v2 c8_i32_64
  let c0_i32_70 : BitVec 32 := 0#32
  ![v2.toNat, 64, v66.toNat, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_82 : BitVec 32 := 320#32
  let c8_i32_78 : BitVec 32 := 8#32
  let v78 : BitVec 32 := Scalar.muli v2 c8_i32_78
  let c0_i32_83 : BitVec 32 := 0#32
  ![v2.toNat, 320, v78.toNat, 0]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32 : BitVec 32 := 576#32
  let c8_i32_91 : BitVec 32 := 8#32
  let v90 : BitVec 32 := Scalar.muli v2 c8_i32_91
  let c0_i32_95 : BitVec 32 := 0#32
  ![v2.toNat, 576, v90.toNat, 0]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32 : BitVec 32 := 832#32
  let c8_i32_103 : BitVec 32 := 8#32
  let v102 : BitVec 32 := Scalar.muli v2 c8_i32_103
  let c0_i32_107 : BitVec 32 := 0#32
  ![v2.toNat, 832, v102.toNat, 0]
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_120 : BitVec 32 := 128#32
  let c8_i32_115 : BitVec 32 := 8#32
  let v114 : BitVec 32 := Scalar.muli v2 c8_i32_115
  let c0_i32_121 : BitVec 32 := 0#32
  ![v2.toNat, 128, v114.toNat, 0]
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_134 : BitVec 32 := 384#32
  let c8_i32_129 : BitVec 32 := 8#32
  let v126 : BitVec 32 := Scalar.muli v2 c8_i32_129
  let c0_i32_135 : BitVec 32 := 0#32
  ![v2.toNat, 384, v126.toNat, 0]
def k0_off11 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_147 : BitVec 32 := 640#32
  let c8_i32_143 : BitVec 32 := 8#32
  let v138 : BitVec 32 := Scalar.muli v2 c8_i32_143
  let c0_i32_148 : BitVec 32 := 0#32
  ![v2.toNat, 640, v138.toNat, 0]
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32 : BitVec 32 := 896#32
  let c8_i32_156 : BitVec 32 := 8#32
  let v150 : BitVec 32 := Scalar.muli v2 c8_i32_156
  let c0_i32_160 : BitVec 32 := 0#32
  ![v2.toNat, 896, v150.toNat, 0]
def k0_off13 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_173 : BitVec 32 := 192#32
  let c8_i32_168 : BitVec 32 := 8#32
  let v162 : BitVec 32 := Scalar.muli v2 c8_i32_168
  let c0_i32_174 : BitVec 32 := 0#32
  ![v2.toNat, 192, v162.toNat, 0]
def k0_off14 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_187 : BitVec 32 := 448#32
  let c8_i32_182 : BitVec 32 := 8#32
  let v174 : BitVec 32 := Scalar.muli v2 c8_i32_182
  let c0_i32_188 : BitVec 32 := 0#32
  ![v2.toNat, 448, v174.toNat, 0]
def k0_off15 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_201 : BitVec 32 := 704#32
  let c8_i32_196 : BitVec 32 := 8#32
  let v186 : BitVec 32 := Scalar.muli v2 c8_i32_196
  let c0_i32_202 : BitVec 32 := 0#32
  ![v2.toNat, 704, v186.toNat, 0]
def k0_off16 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_214 : BitVec 32 := 960#32
  let c8_i32_210 : BitVec 32 := 8#32
  let v198 : BitVec 32 := Scalar.muli v2 c8_i32_210
  let c0_i32_215 : BitVec 32 := 0#32
  ![v2.toNat, 960, v198.toNat, 0]
def k0_dev1 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_224 : BitVec 32 := 1#32
  let v211 : BitVec 32 := Scalar.muli v5 c1_i32_224
  let v212 : BitVec 32 := Scalar.addi c0_i32_225 v211
  v212.toNat
def k0_dev2 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_227 : BitVec 32 := 1#32
  let v213 : BitVec 32 := Scalar.muli v7 c1_i32_227
  let v214 : BitVec 32 := Scalar.addi c0_i32_228 v213
  v214.toNat
def k0_dev3 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_246 : BitVec 32 := 1#32
  let v223 : BitVec 32 := Scalar.muli v7 c1_i32_246
  let v224 : BitVec 32 := Scalar.addi c0_i32_247 v223
  v224.toNat
def k0_dev4 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_258 : BitVec 32 := 1#32
  let v233 : BitVec 32 := Scalar.muli v5 c1_i32_258
  let v234 : BitVec 32 := Scalar.addi c0_i32_259 v233
  v234.toNat
def k0_off17 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_418 : BitVec 32 := 0#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_413 : BitVec 32 := 8#32
  let v386 : BitVec 32 := Scalar.muli v5 c8_i32_413
  let c0_i32_419 : BitVec 32 := 0#32
  ![v2.toNat, 0, v386.toNat, 0]
def k0_off18 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_432 : BitVec 32 := 256#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_427 : BitVec 32 := 8#32
  let v398 : BitVec 32 := Scalar.muli v5 c8_i32_427
  let c0_i32_433 : BitVec 32 := 0#32
  ![v2.toNat, 256, v398.toNat, 0]
def k0_off19 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_446 : BitVec 32 := 512#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_441 : BitVec 32 := 8#32
  let v410 : BitVec 32 := Scalar.muli v5 c8_i32_441
  let c0_i32_447 : BitVec 32 := 0#32
  ![v2.toNat, 512, v410.toNat, 0]
def k0_off20 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_460 : BitVec 32 := 768#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_455 : BitVec 32 := 8#32
  let v422 : BitVec 32 := Scalar.muli v5 c8_i32_455
  let c0_i32_461 : BitVec 32 := 0#32
  ![v2.toNat, 768, v422.toNat, 0]
def k0_off21 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_474 : BitVec 32 := 64#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_469 : BitVec 32 := 8#32
  let v434 : BitVec 32 := Scalar.muli v5 c8_i32_469
  let c0_i32_475 : BitVec 32 := 0#32
  ![v2.toNat, 64, v434.toNat, 0]
def k0_off22 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_488 : BitVec 32 := 320#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_483 : BitVec 32 := 8#32
  let v446 : BitVec 32 := Scalar.muli v5 c8_i32_483
  let c0_i32_489 : BitVec 32 := 0#32
  ![v2.toNat, 320, v446.toNat, 0]
def k0_off23 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_502 : BitVec 32 := 576#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_497 : BitVec 32 := 8#32
  let v458 : BitVec 32 := Scalar.muli v5 c8_i32_497
  let c0_i32_503 : BitVec 32 := 0#32
  ![v2.toNat, 576, v458.toNat, 0]
def k0_off24 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_516 : BitVec 32 := 832#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_511 : BitVec 32 := 8#32
  let v470 : BitVec 32 := Scalar.muli v5 c8_i32_511
  let c0_i32_517 : BitVec 32 := 0#32
  ![v2.toNat, 832, v470.toNat, 0]
def k0_off25 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_530 : BitVec 32 := 128#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_525 : BitVec 32 := 8#32
  let v482 : BitVec 32 := Scalar.muli v5 c8_i32_525
  let c0_i32_531 : BitVec 32 := 0#32
  ![v2.toNat, 128, v482.toNat, 0]
def k0_off26 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_544 : BitVec 32 := 384#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_539 : BitVec 32 := 8#32
  let v494 : BitVec 32 := Scalar.muli v5 c8_i32_539
  let c0_i32_545 : BitVec 32 := 0#32
  ![v2.toNat, 384, v494.toNat, 0]
def k0_off27 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_558 : BitVec 32 := 640#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_553 : BitVec 32 := 8#32
  let v506 : BitVec 32 := Scalar.muli v5 c8_i32_553
  let c0_i32_559 : BitVec 32 := 0#32
  ![v2.toNat, 640, v506.toNat, 0]
def k0_off28 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_572 : BitVec 32 := 896#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_567 : BitVec 32 := 8#32
  let v518 : BitVec 32 := Scalar.muli v5 c8_i32_567
  let c0_i32_573 : BitVec 32 := 0#32
  ![v2.toNat, 896, v518.toNat, 0]
def k0_off29 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_586 : BitVec 32 := 192#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_581 : BitVec 32 := 8#32
  let v530 : BitVec 32 := Scalar.muli v5 c8_i32_581
  let c0_i32_587 : BitVec 32 := 0#32
  ![v2.toNat, 192, v530.toNat, 0]
def k0_off30 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_600 : BitVec 32 := 448#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_595 : BitVec 32 := 8#32
  let v542 : BitVec 32 := Scalar.muli v5 c8_i32_595
  let c0_i32_601 : BitVec 32 := 0#32
  ![v2.toNat, 448, v542.toNat, 0]
def k0_off31 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_614 : BitVec 32 := 704#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_609 : BitVec 32 := 8#32
  let v554 : BitVec 32 := Scalar.muli v5 c8_i32_609
  let c0_i32_615 : BitVec 32 := 0#32
  ![v2.toNat, 704, v554.toNat, 0]
def k0_off32 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_628 : BitVec 32 := 960#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_623 : BitVec 32 := 8#32
  let v566 : BitVec 32 := Scalar.muli v5 c8_i32_623
  let c0_i32_629 : BitVec 32 := 0#32
  ![v2.toNat, 960, v566.toNat, 0]
def k0_dev5 (d0 : Dev nD) : Nat :=
  let c0_i32_801 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_800 : BitVec 32 := 1#32
  let v839 : BitVec 32 := Scalar.muli v7 c1_i32_800
  let v840 : BitVec 32 := Scalar.addi c0_i32_801 v839
  v840.toNat
def k0_dev6 (d0 : Dev nD) : Nat :=
  let c0_i32_813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_812 : BitVec 32 := 1#32
  let v849 : BitVec 32 := Scalar.muli v7 c1_i32_812
  let v850 : BitVec 32 := Scalar.addi c0_i32_813 v849
  v850.toNat
def k0_dev7 (d0 : Dev nD) : Nat :=
  let c0_i32_837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_836 : BitVec 32 := 1#32
  let v867 : BitVec 32 := Scalar.muli v5 c1_i32_836
  let v868 : BitVec 32 := Scalar.addi c0_i32_837 v867
  v868.toNat
def k0_dev8 (d0 : Dev nD) : Nat :=
  let c0_i32_849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_848 : BitVec 32 := 1#32
  let v877 : BitVec 32 := Scalar.muli v5 c1_i32_848
  let v878 : BitVec 32 := Scalar.addi c0_i32_849 v877
  v878.toNat
def k0_off33 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_981 : BitVec 32 := 0#32
  let v6 : BitVec 32 := Scalar.addi v2 c1_i32_3
  let c4_i32_4 : BitVec 32 := 4#32
  let v7 : BitVec 32 := Scalar.remsi v6 c4_i32_4
  let c8_i32_976 : BitVec 32 := 8#32
  let v997 : BitVec 32 := Scalar.muli v7 c8_i32_976
  let c0_i32_982 : BitVec 32 := 0#32
  ![v2.toNat, 0, v997.toNat, 0]
def k0_off34 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_995 : BitVec 32 := 256#32
  let v6 : BitVec 32 := Scalar.addi v2 c1_i32_3
  let c4_i32_4 : BitVec 32 := 4#32
  let v7 : BitVec 32 := Scalar.remsi v6 c4_i32_4
  let c8_i32_990 : BitVec 32 := 8#32
  let v1009 : BitVec 32 := Scalar.muli v7 c8_i32_990
  let c0_i32_996 : BitVec 32 := 0#32
  ![v2.toNat, 256, v1009.toNat, 0]
def k0_off35 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1009 : BitVec 32 := 512#32
  let v6 : BitVec 32 := Scalar.addi v2 c1_i32_3
  let c4_i32_4 : BitVec 32 := 4#32
  let v7 : BitVec 32 := Scalar.remsi v6 c4_i32_4
  let c8_i32_1004 : BitVec 32 := 8#32
  let v1021 : BitVec 32 := Scalar.muli v7 c8_i32_1004
  let c0_i32_1010 : BitVec 32 := 0#32
  ![v2.toNat, 512, v1021.toNat, 0]
def k0_off36 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1023 : BitVec 32 := 768#32
  let v6 : BitVec 32 := Scalar.addi v2 c1_i32_3
  let c4_i32_4 : BitVec 32 := 4#32
  let v7 : BitVec 32 := Scalar.remsi v6 c4_i32_4
  let c8_i32_1018 : BitVec 32 := 8#32
  let v1033 : BitVec 32 := Scalar.muli v7 c8_i32_1018
  let c0_i32_1024 : BitVec 32 := 0#32
  ![v2.toNat, 768, v1033.toNat, 0]
def k0_off37 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1037 : BitVec 32 := 64#32
  let v6 : BitVec 32 := Scalar.addi v2 c1_i32_3
  let c4_i32_4 : BitVec 32 := 4#32
  let v7 : BitVec 32 := Scalar.remsi v6 c4_i32_4
  let c8_i32_1032 : BitVec 32 := 8#32
  let v1045 : BitVec 32 := Scalar.muli v7 c8_i32_1032
  let c0_i32_1038 : BitVec 32 := 0#32
  ![v2.toNat, 64, v1045.toNat, 0]
def k0_off38 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1051 : BitVec 32 := 320#32
  let v6 : BitVec 32 := Scalar.addi v2 c1_i32_3
  let c4_i32_4 : BitVec 32 := 4#32
  let v7 : BitVec 32 := Scalar.remsi v6 c4_i32_4
  let c8_i32_1046 : BitVec 32 := 8#32
  let v1057 : BitVec 32 := Scalar.muli v7 c8_i32_1046
  let c0_i32_1052 : BitVec 32 := 0#32
  ![v2.toNat, 320, v1057.toNat, 0]
def k0_off39 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1065 : BitVec 32 := 576#32
  let v6 : BitVec 32 := Scalar.addi v2 c1_i32_3
  let c4_i32_4 : BitVec 32 := 4#32
  let v7 : BitVec 32 := Scalar.remsi v6 c4_i32_4
  let c8_i32_1060 : BitVec 32 := 8#32
  let v1069 : BitVec 32 := Scalar.muli v7 c8_i32_1060
  let c0_i32_1066 : BitVec 32 := 0#32
  ![v2.toNat, 576, v1069.toNat, 0]
def k0_off40 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1079 : BitVec 32 := 832#32
  let v6 : BitVec 32 := Scalar.addi v2 c1_i32_3
  let c4_i32_4 : BitVec 32 := 4#32
  let v7 : BitVec 32 := Scalar.remsi v6 c4_i32_4
  let c8_i32_1074 : BitVec 32 := 8#32
  let v1081 : BitVec 32 := Scalar.muli v7 c8_i32_1074
  let c0_i32_1080 : BitVec 32 := 0#32
  ![v2.toNat, 832, v1081.toNat, 0]
def k0_off41 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1093 : BitVec 32 := 128#32
  let v6 : BitVec 32 := Scalar.addi v2 c1_i32_3
  let c4_i32_4 : BitVec 32 := 4#32
  let v7 : BitVec 32 := Scalar.remsi v6 c4_i32_4
  let c8_i32_1088 : BitVec 32 := 8#32
  let v1093 : BitVec 32 := Scalar.muli v7 c8_i32_1088
  let c0_i32_1094 : BitVec 32 := 0#32
  ![v2.toNat, 128, v1093.toNat, 0]
def k0_off42 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1107 : BitVec 32 := 384#32
  let v6 : BitVec 32 := Scalar.addi v2 c1_i32_3
  let c4_i32_4 : BitVec 32 := 4#32
  let v7 : BitVec 32 := Scalar.remsi v6 c4_i32_4
  let c8_i32_1102 : BitVec 32 := 8#32
  let v1105 : BitVec 32 := Scalar.muli v7 c8_i32_1102
  let c0_i32_1108 : BitVec 32 := 0#32
  ![v2.toNat, 384, v1105.toNat, 0]
def k0_off43 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1121 : BitVec 32 := 640#32
  let v6 : BitVec 32 := Scalar.addi v2 c1_i32_3
  let c4_i32_4 : BitVec 32 := 4#32
  let v7 : BitVec 32 := Scalar.remsi v6 c4_i32_4
  let c8_i32_1116 : BitVec 32 := 8#32
  let v1117 : BitVec 32 := Scalar.muli v7 c8_i32_1116
  let c0_i32_1122 : BitVec 32 := 0#32
  ![v2.toNat, 640, v1117.toNat, 0]
def k0_off44 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1135 : BitVec 32 := 896#32
  let v6 : BitVec 32 := Scalar.addi v2 c1_i32_3
  let c4_i32_4 : BitVec 32 := 4#32
  let v7 : BitVec 32 := Scalar.remsi v6 c4_i32_4
  let c8_i32_1130 : BitVec 32 := 8#32
  let v1129 : BitVec 32 := Scalar.muli v7 c8_i32_1130
  let c0_i32_1136 : BitVec 32 := 0#32
  ![v2.toNat, 896, v1129.toNat, 0]
def k0_off45 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1149 : BitVec 32 := 192#32
  let v6 : BitVec 32 := Scalar.addi v2 c1_i32_3
  let c4_i32_4 : BitVec 32 := 4#32
  let v7 : BitVec 32 := Scalar.remsi v6 c4_i32_4
  let c8_i32_1144 : BitVec 32 := 8#32
  let v1141 : BitVec 32 := Scalar.muli v7 c8_i32_1144
  let c0_i32_1150 : BitVec 32 := 0#32
  ![v2.toNat, 192, v1141.toNat, 0]
def k0_off46 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1163 : BitVec 32 := 448#32
  let v6 : BitVec 32 := Scalar.addi v2 c1_i32_3
  let c4_i32_4 : BitVec 32 := 4#32
  let v7 : BitVec 32 := Scalar.remsi v6 c4_i32_4
  let c8_i32_1158 : BitVec 32 := 8#32
  let v1153 : BitVec 32 := Scalar.muli v7 c8_i32_1158
  let c0_i32_1164 : BitVec 32 := 0#32
  ![v2.toNat, 448, v1153.toNat, 0]
def k0_off47 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1177 : BitVec 32 := 704#32
  let v6 : BitVec 32 := Scalar.addi v2 c1_i32_3
  let c4_i32_4 : BitVec 32 := 4#32
  let v7 : BitVec 32 := Scalar.remsi v6 c4_i32_4
  let c8_i32_1172 : BitVec 32 := 8#32
  let v1165 : BitVec 32 := Scalar.muli v7 c8_i32_1172
  let c0_i32_1178 : BitVec 32 := 0#32
  ![v2.toNat, 704, v1165.toNat, 0]
def k0_off48 (d0 : Dev nD) (c1_i32_3 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1191 : BitVec 32 := 960#32
  let v6 : BitVec 32 := Scalar.addi v2 c1_i32_3
  let c4_i32_4 : BitVec 32 := 4#32
  let v7 : BitVec 32 := Scalar.remsi v6 c4_i32_4
  let c8_i32_1186 : BitVec 32 := 8#32
  let v1177 : BitVec 32 := Scalar.muli v7 c8_i32_1186
  let c0_i32_1192 : BitVec 32 := 0#32
  ![v2.toNat, 960, v1177.toNat, 0]
def k0_dev9 (d0 : Dev nD) : Nat :=
  let c0_i32_1999 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1998 : BitVec 32 := 1#32
  let v2177 : BitVec 32 := Scalar.muli v7 c1_i32_1998
  let v2178 : BitVec 32 := Scalar.addi c0_i32_1999 v2177
  v2178.toNat
def k0_dev10 (d0 : Dev nD) : Nat :=
  let c0_i32_2023 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2022 : BitVec 32 := 1#32
  let v2195 : BitVec 32 := Scalar.muli v5 c1_i32_2022
  let v2196 : BitVec 32 := Scalar.addi c0_i32_2023 v2195
  v2196.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 137
  | .vmem => 0
  | .smem => 0
  | _ => 0

abbrev hbmTy0_0 (i : Nat) : BufTy := match i % 128 with
  | 0 => ⟨S4x1024x1024, .f32⟩
  | 1 => ⟨S1024x4096, .f32⟩
  | 2 => ⟨S4x1024x32x128, .f32⟩
  | 3 => ⟨S4x1024x32x128, .f32⟩
  | 4 => ⟨S4096x1024, .f32⟩
  | 5 => ⟨S4x1024x4096, .f32⟩
  | 6 => ⟨S4x1024x32x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S4x32x1024x1024, .f32⟩
  | 99 => ⟨S_, .f32⟩
  | 100 => ⟨S4x32x1024x1024, .f32⟩
  | 101 => ⟨S4x32x1024x1024, .f32⟩
  | 102 => ⟨S1x1x1024x1024, .i1⟩
  | 103 => ⟨S_, .f32⟩
  | 104 => ⟨S_, .f32⟩
  | 105 => ⟨S4x32x1024x1024, .i1⟩
  | 106 => ⟨S4x32x1024x1024, .f32⟩
  | 107 => ⟨S4x32x1024x1024, .f32⟩
  | 108 => ⟨S_, .f32⟩
  | 109 => ⟨S4x32x1024, .f32⟩
  | 110 => ⟨S4x32x1024x1, .f32⟩
  | 111 => ⟨S4x32x1024x1024, .f32⟩
  | 112 => ⟨S4x32x1024x1024, .f32⟩
  | 113 => ⟨S4x32x1024x1024, .f32⟩
  | 114 => ⟨S_, .i1⟩
  | 115 => ⟨S1024, .i1⟩
  | 116 => ⟨S1x1x1024x1, .i1⟩
  | 117 => ⟨S_, .f32⟩
  | 118 => ⟨S4x32x1024, .f32⟩
  | 119 => ⟨S4x32x1024x1, .f32⟩
  | 120 => ⟨S_, .f32⟩
  | 121 => ⟨S_, .f32⟩
  | 122 => ⟨S4x32x1024x1, .i1⟩
  | 123 => ⟨S4x32x1024x1, .f32⟩
  | 124 => ⟨S4x32x1024x1, .f32⟩
  | 125 => ⟨S4x32x1024x1024, .f32⟩
  | 126 => ⟨S4x32x1024x1024, .f32⟩
  | 127 => ⟨S1x1x1024x1, .i1⟩
  | _ => ⟨S4x1024x1024, .f32⟩

abbrev hbmTy0_1 (i : Nat) : BufTy := match i % 128 with
  | 0 => ⟨S_, .f32⟩
  | 1 => ⟨S_, .f32⟩
  | 2 => ⟨S4x32x1024x1024, .i1⟩
  | 3 => ⟨S4x32x1024x1024, .f32⟩
  | 4 => ⟨S4x32x1024x1024, .f32⟩
  | 5 => ⟨S4x32x128x1024, .f32⟩
  | 6 => ⟨S4x1024x32x128, .f32⟩
  | 7 => ⟨S4x1024x4096, .f32⟩
  | 8 => ⟨S4x1024x1024, .f32⟩
  | _ => ⟨S4x1024x1024, .f32⟩

abbrev hbmTy (i : Nat) : BufTy := match i / 128 with
  | 0 => hbmTy0_0 i
  | 1 => hbmTy0_1 i
  | _ => ⟨S4x1024x1024, .f32⟩

abbrev bufTy : (tb : Table) → Fin (tcTables nBuf tb) → BufTy
  | .hbm, ⟨i, _⟩ => hbmTy i
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Wins.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.ValueLayout

/-! The kernel's arrays, the windows of the weight ring its remote copies move, and what the ring holds once every copy has landed:
    slot `s` of device `c` holds the projection weights of device `peer c s`. -/

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × (UB × Counters)

local notation "𝕄" => MT nD τ sig Unit (Elt F) ℕ UU ℕ

abbrev 𝒱₀ : Variants := Variants.none

/-! ## The arrays -/

abbrev xM : Memref sig .tc .vmem S1x1024x1024 .bf16 := Memref.whole cc0_stg0_0
abbrev oM : Memref sig .tc .vmem S1x1024x1024 .f32 := Memref.whole cc0_stg1_0
abbrev wqM : Memref sig .tc .hbm S1024x1024 .bf16 := Memref.whole main_v2
abbrev kM : Memref sig .tc .hbm S4x1024x32x128 .f32 := Memref.whole main_arg2
abbrev vM : Memref sig .tc .hbm S4x1024x32x128 .f32 := Memref.whole main_arg3
abbrev woM : Memref sig .tc .hbm S1024x1024 .bf16 := Memref.whole main_v3
abbrev cM : Memref sig .tc .vmem S4x2x1024x1024 .bf16 := Memref.whole cc0_scratch0
abbrev kbM : Memref sig .tc .vmem S1024x8x128 .f32 := Memref.whole cc0_scratch1
abbrev vbM : Memref sig .tc .vmem S1024x8x128 .f32 := Memref.whole cc0_scratch2
abbrev khM : Memref sig .tc .vmem S8x1024x128 .f32 := Memref.whole cc0_scratch3
abbrev vhM : Memref sig .tc .vmem S8x1024x128 .f32 := Memref.whole cc0_scratch4
abbrev ctM : Memref sig .tc .vmem S4x1024x1024 .bf16 := Memref.whole cc0_scratch5

abbrev body : Prog (TpuEff nD τ sig (Elt F) Λ₀ .tc) PUnit :=
  cc0_body xM (Memref.isWhole_whole _) wqM (Memref.isWhole_whole _) kM (Memref.isWhole_whole _) vM (Memref.isWhole_whole _) woM (Memref.isWhole_whole _)
    oM (Memref.isWhole_whole _) cM (Memref.isWhole_whole _) kbM (Memref.isWhole_whole _) vbM (Memref.isWhole_whole _) khM (Memref.isWhole_whole _) vhM (Memref.isWhole_whole _)
    ctM (Memref.isWhole_whole _) cc0_scratch6 cc0_scratch7 cc0_scratch8 cc0_scratch9 cc0_scratch10 cc0_scratch11 cc0_scratch12 cc0_scratch13

/-! ## The ring of devices -/

def nxt (c : Dev nD) : Dev nD := ⟨(c.val + 1) % 4, Nat.mod_lt _ (by decide)⟩
def prv (c : Dev nD) : Dev nD := ⟨(c.val + 3) % 4, Nat.mod_lt _ (by decide)⟩
theorem nxt_prv (c : Dev nD) : nxt (prv c) = c := by revert c; decide
theorem prv_nxt (c : Dev nD) : prv (nxt c) = c := by revert c; decide
def ring : Dev nD ≃ Dev nD := ⟨nxt, prv, prv_nxt, nxt_prv⟩

/-- Whose weights slot `s` of device `c` holds: its own, its left neighbour's, its right neighbour's, the opposite device's. -/
def peer (c : Dev nD) : Fin 4 → Dev nD := ![c, prv c, nxt c, nxt (nxt c)]

/-! ## Windows of the weight ring -/

abbrev winF (o : Fin 4 → ℕ) (h : ∀ a, o a + S1x1x1024x1024.size a ≤ S4x2x1024x1024.size a) : Memref sig .tc .vmem S1024x1024 .bf16 :=
  (cM.slice (Rect.unit (s := S4x2x1024x1024) o S1x1x1024x1024.size h) (fun _ => rfl)).squeeze S1024x1024 squeezes_S1x1x1024x1024_S1024x1024
abbrev winC (o : Fin 4 → ℕ) (h : ∀ a, o a + S1x1x1024x512.size a ≤ S4x2x1024x1024.size a) : Memref sig .tc .vmem S1024x512 .bf16 :=
  (cM.slice (Rect.unit (s := S4x2x1024x1024) o S1x1x1024x512.size h) (fun _ => rfl)).squeeze S1024x512 squeezes_S1x1x1024x512_S1024x512
abbrev winR (o : Fin 4 → ℕ) (h : ∀ a, o a + S1x1x512x1024.size a ≤ S4x2x1024x1024.size a) : Memref sig .tc .vmem S512x1024 .bf16 :=
  (cM.slice (Rect.unit (s := S4x2x1024x1024) o S1x1x512x1024.size h) (fun _ => rfl)).squeeze S512x1024 squeezes_S1x1x512x1024_S512x1024

abbrev F00 := winF ![0, 0, 0, 0] inb_S4x2x1024x1024_S1x1x1024x1024_0_0_0_0
abbrev F01 := winF ![0, 1, 0, 0] inb_S4x2x1024x1024_S1x1x1024x1024_0_1_0_0
abbrev F10 := winF ![1, 0, 0, 0] inb_S4x2x1024x1024_S1x1x1024x1024_1_0_0_0
abbrev F11 := winF ![1, 1, 0, 0] inb_S4x2x1024x1024_S1x1x1024x1024_1_1_0_0
abbrev F20 := winF ![2, 0, 0, 0] inb_S4x2x1024x1024_S1x1x1024x1024_2_0_0_0
abbrev F21 := winF ![2, 1, 0, 0] inb_S4x2x1024x1024_S1x1x1024x1024_2_1_0_0
abbrev F30 := winF ![3, 0, 0, 0] inb_S4x2x1024x1024_S1x1x1024x1024_3_0_0_0
abbrev F31 := winF ![3, 1, 0, 0] inb_S4x2x1024x1024_S1x1x1024x1024_3_1_0_0
abbrev C1a := winC ![1, 0, 0, 0] inb_S4x2x1024x1024_S1x1x1024x512_1_0_0_0
abbrev C1b := winC ![1, 0, 0, 512] (by decide)
abbrev C2a := winC ![2, 0, 0, 0] (by decide)
abbrev C2b := winC ![2, 0, 0, 512] inb_S4x2x1024x1024_S1x1x1024x512_2_0_0_512
abbrev C3a := winC ![3, 0, 0, 0] inb_S4x2x1024x1024_S1x1x1024x512_3_0_0_0
abbrev C3b := winC ![3, 0, 0, 512] inb_S4x2x1024x1024_S1x1x1024x512_3_0_0_512
abbrev R1a := winR ![1, 1, 0, 0] inb_S4x2x1024x1024_S1x1x512x1024_1_1_0_0
abbrev R1b := winR ![1, 1, 512, 0] (by decide)
abbrev R2a := winR ![2, 1, 0, 0] (by decide)
abbrev R2b := winR ![2, 1, 512, 0] inb_S4x2x1024x1024_S1x1x512x1024_2_1_512_0
abbrev R3a := winR ![3, 1, 0, 0] inb_S4x2x1024x1024_S1x1x512x1024_3_1_0_0
abbrev R3b := winR ![3, 1, 512, 0] inb_S4x2x1024x1024_S1x1x512x1024_3_1_512_0

/-- Whole-array indices. -/
abbrev CI := S4x2x1024x1024.Idx

theorem mem_slice_sq {s' : Shape} (o sz : Fin 4 → ℕ) (h : ∀ a, o a + sz a ≤ S4x2x1024x1024.size a)
    (hq : (Rect.unit (s := S4x2x1024x1024) o sz h).shape.Squeezes s') (i : CI) :
    i ∈ ((cM.slice (Rect.unit (s := S4x2x1024x1024) o sz h) (fun _ => rfl)).squeeze s' hq).view.set
      ↔ ∀ a, o a ≤ (i a).val ∧ (i a).val < o a + sz a := by
  rw [Memref.set_view_squeeze]
  show i ∈ (View.slice (View.whole cc0_scratch0) (Rect.unit (s := S4x2x1024x1024) o sz h)).set ↔ _
  rw [View.set_slice]
  show i ∈ (Rect.unit (s := S4x2x1024x1024) o sz h).set.map (Function.Embedding.refl _) ↔ _
  rw [Finset.map_refl]
  exact Rect.mem_set_unit

theorem mem_winF (a b : ℕ) (h) (i : CI) : i ∈ (winF ![a, b, 0, 0] h).view.set ↔ (i 0).val = a ∧ (i 1).val = b := by
  rw [mem_slice_sq, Fin.forall_fin_succ, Fin.forall_fin_succ, Fin.forall_fin_succ, Fin.forall_fin_succ]
  have h2 : (i 2).val < 1024 := (i 2).isLt
  have h3 : (i 3).val < 1024 := (i 3).isLt
  show ((a ≤ (i 0).val ∧ (i 0).val < a + 1) ∧ (b ≤ (i 1).val ∧ (i 1).val < b + 1) ∧ (0 ≤ (i 2).val ∧ (i 2).val < 0 + 1024)
    ∧ (0 ≤ (i 3).val ∧ (i 3).val < 0 + 1024) ∧ _) ↔ _
  constructor
  · rintro ⟨h0, h1, -⟩; omega
  · rintro ⟨h0, h1⟩; exact ⟨by omega, by omega, by omega, by omega, fun x => x.elim0⟩

theorem mem_winC (a b k : ℕ) (h) (i : CI) :
    i ∈ (winC ![a, b, 0, k] h).view.set ↔ (i 0).val = a ∧ (i 1).val = b ∧ k ≤ (i 3).val ∧ (i 3).val < k + 512 := by
  rw [mem_slice_sq, Fin.forall_fin_succ, Fin.forall_fin_succ, Fin.forall_fin_succ, Fin.forall_fin_succ]
  have h2 : (i 2).val < 1024 := (i 2).isLt
  show ((a ≤ (i 0).val ∧ (i 0).val < a + 1) ∧ (b ≤ (i 1).val ∧ (i 1).val < b + 1) ∧ (0 ≤ (i 2).val ∧ (i 2).val < 0 + 1024)
    ∧ (k ≤ (i 3).val ∧ (i 3).val < k + 512) ∧ _) ↔ _
  constructor
  · rintro ⟨h0, h1, -, h3, -⟩; omega
  · rintro ⟨h0, h1, h3⟩; exact ⟨by omega, by omega, by omega, by omega, fun x => x.elim0⟩

theorem mem_winR (a b k : ℕ) (h) (i : CI) :
    i ∈ (winR ![a, b, k, 0] h).view.set ↔ (i 0).val = a ∧ (i 1).val = b ∧ k ≤ (i 2).val ∧ (i 2).val < k + 512 := by
  rw [mem_slice_sq, Fin.forall_fin_succ, Fin.forall_fin_succ, Fin.forall_fin_succ, Fin.forall_fin_succ]
  have h3 : (i 3).val < 1024 := (i 3).isLt
  show ((a ≤ (i 0).val ∧ (i 0).val < a + 1) ∧ (b ≤ (i 1).val ∧ (i 1).val < b + 1) ∧ (k ≤ (i 2).val ∧ (i 2).val < k + 512)
    ∧ (0 ≤ (i 3).val ∧ (i 3).val < 0 + 1024) ∧ _) ↔ _
  constructor
  · rintro ⟨h0, h1, h2, -, -⟩; omega
  · rintro ⟨h0, h1, h2⟩; exact ⟨by omega, by omega, by omega, by omega, fun x => x.elim0⟩

/-- A slot's half is two halves by columns. -/
theorem winC_split (a b : ℕ) (h h1 h2) :
    (winF ![a, b, 0, 0] h).view.set = ((winC ![a, b, 0, 0] h1).view.set : Finset CI) ∪ (winC ![a, b, 0, 512] h2).view.set := by
  ext i
  rw [Finset.mem_union, mem_winF, mem_winC, mem_winC]
  have h3 : (i 3).val < 1024 := (i 3).isLt
  omega
theorem winC_disj (a b : ℕ) (h1 h2) : Disjoint ((winC ![a, b, 0, 0] h1).view.set : Finset CI) (winC ![a, b, 0, 512] h2).view.set := by
  rw [Finset.disjoint_left]; intro i; rw [mem_winC, mem_winC]; omega
/-- and two halves by rows. -/
theorem winR_split (a b : ℕ) (h h1 h2) :
    (winF ![a, b, 0, 0] h).view.set = ((winR ![a, b, 0, 0] h1).view.set : Finset CI) ∪ (winR ![a, b, 512, 0] h2).view.set := by
  ext i
  rw [Finset.mem_union, mem_winF, mem_winR, mem_winR]
  have h3 : (i 2).val < 1024 := (i 2).isLt
  omega
theorem winR_disj (a b : ℕ) (h1 h2) : Disjoint ((winR ![a, b, 0, 0] h1).view.set : Finset CI) (winR ![a, b, 512, 0] h2).view.set := by
  rw [Finset.disjoint_left]; intro i; rw [mem_winR, mem_winR]; omega
theorem winF_disj (a b a' b' : ℕ) (h h') (hne : a ≠ a' ∨ b ≠ b') :
    Disjoint ((winF ![a, b, 0, 0] h).view.set : Finset CI) (winF ![a', b', 0, 0] h').view.set := by
  rw [Finset.disjoint_left]; intro i; rw [mem_winF, mem_winF]; omega

/-! ## Points-tos of the ring -/

abbrev cLoc (c : Dev nD) : Loc nD τ sig := cM.view.loc (c : Thread nD τ)
abbrev cP (c : Dev nD) (S : Finset (Idx (cLoc c))) (q : PosShare TreeShare) (f : Buf (Elt F) (cLoc c)) : sProp 𝕄 := cLoc c ↦[S]{q} f

theorem cP_halfC (c : Dev nD) (a b : ℕ) (h h1 h2) (q : PosShare TreeShare) (f : Buf (Elt F) (cLoc c)) :
    (cP c (winF ![a, b, 0, 0] h).view.set q f) = iprop(cP c (winC ![a, b, 0, 0] h1).view.set q f ∗ cP c (winC ![a, b, 0, 512] h2).view.set q f) := by
  have e := winC_split a b h h1 h2
  have u : (cP c (((winC ![a, b, 0, 0] h1).view.set : Finset CI) ∪ (winC ![a, b, 0, 512] h2).view.set) q f : sProp 𝕄)
    ⊣⊢ iprop(cP c (winC ![a, b, 0, 0] h1).view.set q f ∗ cP c (winC ![a, b, 0, 512] h2).view.set q f) := pointsTo_union (winC_disj a b h1 h2)
  exact (congrArg (fun S => (cP c S q f : sProp 𝕄)) e).trans (BI.equiv_iff.mp ⟨u.1, u.2⟩)

theorem cP_halfR (c : Dev nD) (a b : ℕ) (h h1 h2) (q : PosShare TreeShare) (f : Buf (Elt F) (cLoc c)) :
    (cP c (winF ![a, b, 0, 0] h).view.set q f) = iprop(cP c (winR ![a, b, 0, 0] h1).view.set q f ∗ cP c (winR ![a, b, 512, 0] h2).view.set q f) := by
  have e := winR_split a b h h1 h2
  have u : (cP c (((winR ![a, b, 0, 0] h1).view.set : Finset CI) ∪ (winR ![a, b, 512, 0] h2).view.set) q f : sProp 𝕄)
    ⊣⊢ iprop(cP c (winR ![a, b, 0, 0] h1).view.set q f ∗ cP c (winR ![a, b, 512, 0] h2).view.set q f) := pointsTo_union (winR_disj a b h1 h2)
  exact (congrArg (fun S => (cP c S q f : sProp 𝕄)) e).trans (BI.equiv_iff.mp ⟨u.1, u.2⟩)

theorem cP_share (c : Dev nD) (S : Finset (Idx (cLoc c))) (q : PosShare TreeShare) (f : Buf (Elt F) (cLoc c)) :
    (cP c S q f : sProp 𝕄) = iprop(cP c S q.left f ∗ cP c S q.right f) := by
  have u : (cP c S q f : sProp 𝕄) ⊣⊢ iprop(cP c S q.left f ∗ cP c S q.right f) := pointsTo_share (by rw [PosShare.left_op_right]; exact Part.mem_some _)
  exact BI.equiv_iff.mp ⟨u.1, u.2⟩

/-- The whole ring is its eight halves of slots. -/
theorem cP_univ (c : Dev nD) (q : PosShare TreeShare) (f : Buf (Elt F) (cLoc c)) :
    (cP c Finset.univ q f : sProp 𝕄) = iprop(cP c F00.view.set q f ∗ cP c F01.view.set q f ∗ cP c F10.view.set q f ∗ cP c F11.view.set q f
      ∗ cP c F20.view.set q f ∗ cP c F21.view.set q f ∗ cP c F30.view.set q f ∗ cP c F31.view.set q f) := by
  let S : Fin 4 × Fin 2 → Finset CI := fun p => (Finset.univ : Finset CI).filter fun i => (i 0).val = p.1.val ∧ (i 1).val = p.2.val
  have hS (a : Fin 4) (b : Fin 2) (h) : (winF ![a.val, b.val, 0, 0] h).view.set = S (a, b) := by
    ext i; rw [mem_winF]; simp [S]
  have hu : (Finset.univ : Finset CI) = Finset.univ.biUnion S := by
    ext i
    simp only [Finset.mem_univ, Finset.mem_biUnion, true_and, true_iff, S, Finset.mem_filter]
    exact ⟨((i 0), (i 1)), rfl, rfl⟩
  have hd : ∀ t ∈ (Finset.univ : Finset (Fin 4 × Fin 2)), ∀ t' ∈ (Finset.univ : Finset (Fin 4 × Fin 2)), t ≠ t' → Disjoint (S t) (S t') := by
    intro t _ t' _ hne
    rw [Finset.disjoint_left]
    intro i h1 h2
    simp only [S, Finset.mem_filter, Finset.mem_univ, true_and] at h1 h2
    exact hne (Prod.ext (Fin.ext (by omega)) (Fin.ext (by omega)))
  have key := pointsTo_biUnion (ℓ := cLoc c) (q := q) (f := f) (Ix := Unit) (Name := ℕ) (U := UU) (Lvl := ℕ) Finset.univ S hd
  have e1 : (cP c Finset.univ q f : sProp 𝕄) = bigSep Finset.univ fun t => cP c (S t) q f :=
    (congrArg (fun T => (cP c T q f : sProp 𝕄)) hu).trans key
  rw [e1, bigSep_univ_eq_bigSepL [(0, 0), (0, 1), (1, 0), (1, 1), (2, 0), (2, 1), (3, 0), (3, 1)] (by decide) (by decide)]
  rw [show (F00.view.set : Finset CI) = S (0, 0) from hS 0 0 _, show (F01.view.set : Finset CI) = S (0, 1) from hS 0 1 _,
    show (F10.view.set : Finset CI) = S (1, 0) from hS 1 0 _, show (F11.view.set : Finset CI) = S (1, 1) from hS 1 1 _,
    show (F20.view.set : Finset CI) = S (2, 0) from hS 2 0 _, show (F21.view.set : Finset CI) = S (2, 1) from hS 2 1 _,
    show (F30.view.set : Finset CI) = S (3, 0) from hS 3 0 _, show (F31.view.set : Finset CI) = S (3, 1) from hS 3 1 _]
  rfl

/-! ## What the ring holds -/

variable (m : (ℓ : Loc nD τ sig) → Buf (Elt F) ℓ)

/-- Device `d`'s projection weights in the narrow format, as its host casts leave them. -/
abbrev wqv (d : Dev nD) : S1024x1024.Idx → Elt F .bf16 := V m d main_v2
abbrev wov (d : Dev nD) : S1024x1024.Idx → Elt F .bf16 := V m d main_v3

def commF (c : Dev nD) : Buf (Elt F) (cLoc c) := fun (i : CI) =>
  if (i 1).val = 0 then wqv m (peer c (i 0)) (ValueIdx.ix2 (i 2) (i 3)) else wov m (peer c (i 0)) (ValueIdx.ix2 (i 2) (i 3))

/-! ## Landing: a copy between windows at the same place of two slots carries `commF` to `commF` -/

/-- Contents that read the same through a view agree on its elements. -/
theorem eqOn_of_read {sp : Space} {s : Shape} {e : EltTy} (v : View sig .tc sp s e) {f g : v.ty.Contents (Elt F)}
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_inj _).mp this

theorem landed_eq {sp sp' : Space} {s : Shape} {e : EltTy} (v : View sig .tc sp s e) (u : View sig .tc sp' s e) (fd f' : v.ty.Contents (Elt F))
    (f : u.ty.Contents (Elt F)) (h : v.read (Elt F) f' = u.read (Elt F) f) :
    ∀ i ∈ v.set, v.write (Elt F) fd (u.read (Elt F) f) Finset.univ i = f' i :=
  eqOn_of_read v (by rw [View.read_write_univ, h])

variable {m}

/-- Where element `(x, y)` of a two-axis window of the ring is. -/
theorem sq_emb (a b : ℕ) (o sz : Fin 4 → ℕ) (hsz : sz = ![1, 1, a, b]) (h : ∀ a, o a + sz a ≤ S4x2x1024x1024.size a)
    (hq : (Rect.unit (s := S4x2x1024x1024) o sz h).shape.Squeezes ⟨2, ![a, b]⟩) (x : Fin a) (y : Fin b) :
    let e : CI := ((cM.slice (Rect.unit (s := S4x2x1024x1024) o sz h) (fun _ => rfl)).squeeze ⟨2, ![a, b]⟩ hq).view.emb (ValueIdx.ix2 x y)
    (e 0).val = o 0 ∧ (e 1).val = o 1 ∧ (e 2).val = o 2 + x.val ∧ (e 3).val = o 3 + y.val := by
  subst hsz
  intro e
  have he : e = (Rect.unit (s := S4x2x1024x1024) o ![1, 1, a, b] h).emb (Shape.reshapeEquiv hq.numel_eq (ValueIdx.ix2 x y)) := rfl
  have hr := ValueIdx.reshapeEquiv_ix2_11ab hq.numel_eq x y
  rw [hr] at he
  rw [he]
  refine ⟨?_, ?_, ?_, ?_⟩
  · show o 0 + 1 * 0 = _; omega
  · show o 1 + 1 * 0 = _; omega
  · show o 2 + 1 * x.val = _; omega
  · show o 3 + 1 * y.val = _; omega

theorem ix2_eta {a b : ℕ} (j : (⟨2, ![a, b]⟩ : Shape).Idx) : j = ValueIdx.ix2 (j 0) (j 1) := by
  funext k; revert k; exact Fin.cases rfl (fun k => Fin.cases rfl (fun k => k.elim0) k)

/-- `commF` at an index by its coordinates. -/
theorem commF_at (c c' : Dev nD) (i i' : CI) (hp : peer c (i 0) = peer c' (i' 0)) (h1 : i 1 = i' 1) (h2 : i 2 = i' 2) (h3 : i 3 = i' 3) :
    commF m c i = commF m c' i' := by
  unfold commF; rw [hp, h1, h2, h3]

/-- Two windows at the same place of two slots that hold the same device's weights read the same. -/
theorem read_sq_eq (a b : ℕ) (o o' sz : Fin 4 → ℕ) (hsz : sz = ![1, 1, a, b]) (h : ∀ a, o a + sz a ≤ S4x2x1024x1024.size a)
    (h' : ∀ a, o' a + sz a ≤ S4x2x1024x1024.size a) (hq : (Rect.unit (s := S4x2x1024x1024) o sz h).shape.Squeezes ⟨2, ![a, b]⟩)
    (hq' : (Rect.unit (s := S4x2x1024x1024) o' sz h').shape.Squeezes ⟨2, ![a, b]⟩) (c c' : Dev nD)
    (hp : ∀ s s' : Fin 4, s.val = o 0 → s'.val = o' 0 → peer c s = peer c' s') (h1 : o 1 = o' 1) (h2 : o 2 = o' 2) (h3 : o 3 = o' 3) :
    ((cM.slice (Rect.unit (s := S4x2x1024x1024) o sz h) (fun _ => rfl)).squeeze ⟨2, ![a, b]⟩ hq).view.read (Elt F) (commF m c)
      = ((cM.slice (Rect.unit (s := S4x2x1024x1024) o' sz h') (fun _ => rfl)).squeeze ⟨2, ![a, b]⟩ hq').view.read (Elt F) (commF m c') := by
  funext j
  rw [ix2_eta j]
  obtain ⟨e0, e1, e2, e3⟩ := sq_emb a b o sz hsz h hq (j 0) (j 1)
  obtain ⟨f0, f1, f2, f3⟩ := sq_emb a b o' sz hsz h' hq' (j 0) (j 1)
  exact commF_at c c' _ _ (hp _ _ e0 f0) (Fin.ext (e1.trans (h1.trans f1.symm)))
    (Fin.ext (e2.trans ((congrArg (· + _) h2).trans f2.symm))) (Fin.ext (e3.trans ((congrArg (· + _) h3).trans f3.symm)))

/-- A slot's half read whole. -/
theorem read_F0 (c : Dev nD) (a : Fin 4) (h) : (winF ![a.val, 0, 0, 0] h).view.read (Elt F) (commF m c) = wqv m (peer c a) := by
  funext j
  rw [ix2_eta j]
  obtain ⟨e0, e1, e2, e3⟩ := sq_emb 1024 1024 ![a.val, 0, 0, 0] S1x1x1024x1024.size rfl h squeezes_S1x1x1024x1024_S1024x1024 (j 0) (j 1)
  refine (commF_at (m := m) c c _ (ValueIdx.ix4 a 0 (j 0) (j 1)) (congrArg (peer c) (Fin.ext e0)) (Fin.ext e1) (Fin.ext (e2.trans (Nat.zero_add _)))
    (Fin.ext (e3.trans (Nat.zero_add _)))).trans ?_
  rfl
theorem read_F1 (c : Dev nD) (a : Fin 4) (h) : (winF ![a.val, 1, 0, 0] h).view.read (Elt F) (commF m c) = wov m (peer c a) := by
  funext j
  rw [ix2_eta j]
  obtain ⟨e0, e1, e2, e3⟩ := sq_emb 1024 1024 ![a.val, 1, 0, 0] S1x1x1024x1024.size rfl h squeezes_S1x1x1024x1024_S1024x1024 (j 0) (j 1)
  refine (commF_at (m := m) c c _ (ValueIdx.ix4 a 1 (j 0) (j 1)) (congrArg (peer c) (Fin.ext e0)) (Fin.ext e1) (Fin.ext (e2.trans (Nat.zero_add _)))
    (Fin.ext (e3.trans (Nat.zero_add _)))).trans ?_
  rfl

/-- The two local copies land the own weights. -/
theorem own_wq (c : Dev nD) (f : Buf (Elt F) (cLoc c)) :
    ∀ i ∈ F00.view.set, F00.view.writes (Elt F) f [⟨Rect.whole S1024x1024, wqv m c⟩] i = commF m c i :=
  eqOn_of_read F00.view ((View.read_writes_whole _ _ _).trans (read_F0 c 0 _).symm)
theorem own_wo (c : Dev nD) (f : Buf (Elt F) (cLoc c)) :
    ∀ i ∈ F01.view.set, F01.view.writes (Elt F) f [⟨Rect.whole S1024x1024, wov m c⟩] i = commF m c i :=
  eqOn_of_read F01.view ((View.read_writes_whole _ _ _).trans (read_F1 c 0 _).symm)

end Cert.KProof

end
-- ==== Proof.Talk.lean ====
module

public import proofs.«01_k».proof.Proof.Wins

/-! The rounds of the kernel's semaphores between devices: the barrier and the eight remote copies; what each landing hands over; the rules of
    the remote steps. -/

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev ER : Emb UB 𝕄 :=
  (((Emb.inl : Emb UB (UB × Counters)).trans (Emb.inr : Emb (UB × Counters) UU)).trans
    (uEmb (nD := nD) (sig := sig) (Ix := Unit) (Val := Elt F) (Name := ℕ) (U := UU) (Lvl := ℕ)).toEmb)

instance : (ER (F := F)).LandsIn (upEmb : UEmb _ 𝕄) := by unfold ER; infer_instance

/-! ## Cells -/

abbrev sd (n : ℕ) (h : n < 24 := by decide) : SemLoc sig := .dma ⟨n, h⟩
abbrev barS : Sem sig := sig.barrier 0 rfl
abbrev barC (c : Dev nD) : GSem nD τ sig := ((c : Thread nD τ), .reg barS)
/-- The send and receive semaphores of copy `k`: 0, 1 the query weights one hop right and left; 2, 3 the output weights; 4 to 7 the
    halves of them forwarded a second hop. -/
abbrev sS (k : Fin 8) : DmaSem sig := ⟨2 + k.val, by have := k.isLt; show 2 + k.val < 24; omega⟩
abbrev rS (k : Fin 8) : DmaSem sig := ⟨10 + k.val, by have := k.isLt; show 10 + k.val < 24; omega⟩
abbrev sC (k : Fin 8) (c : Dev nD) : GSem nD τ sig := ((c : Thread nD τ), .dma (sS k))
abbrev rC (k : Fin 8) (c : Dev nD) : GSem nD τ sig := ((c : Thread nD τ), .dma (rS k))

/-- Copy `k` of device `c` goes right when `k` is even, left when odd. -/
def tgt (k : Fin 8) (c : Dev nD) : Dev nD := if k.val % 2 = 0 then nxt c else prv c

/-- The credit of copy `k`. -/
def amt (k : Fin 8) : ℕ := if k.val < 4 then 65536 else 32768
theorem amt_pos (k : Fin 8) : 0 < amt k := by unfold amt; split <;> decide

/-- What copy `k` reads (a share of it is lent), and what it writes on the other device. -/
def srcSet : Fin 8 → Finset CI := ![F00.view.set, F00.view.set, F01.view.set, F01.view.set, C1a.view.set, C2b.view.set, R1a.view.set, R2b.view.set]
def srcQ : Fin 8 → PosShare TreeShare :=
  ![fullShare.left, fullShare.right.left, fullShare.left, fullShare.right.left, fullShare.left, fullShare.left, fullShare.left, fullShare.left]
def dstSet : Fin 8 → Finset CI := ![F10.view.set, F20.view.set, F11.view.set, F21.view.set, C3a.view.set, C3b.view.set, R3a.view.set, R3b.view.set]

/-! ## What each landing hands over -/

def sendPay (k : Fin 8) (c : Dev nD) : sProp 𝕄 := cP c (srcSet k) (srcQ k) (commF m c)
def recvPay (k : Fin 8) (c : Dev nD) : sProp 𝕄 := cP c (dstSet k) fullShare (commF m c)
/-- Where copy `k` lands on device `c`, before: at contents not chosen; and that its receive semaphore is in play. -/
def room (k : Fin 8) (c : Dev nD) : sProp 𝕄 := iprop((∃ f, cP c (dstSet k) fullShare f) ∗ reached ER (rC k c) 0)
/-- A device's signal to its left neighbour offers the room for the copies that come from the left; to its right neighbour, from the right. -/
def barPay (d : Bool) (c : Dev nD) : sProp 𝕄 :=
  if d then iprop(room 0 (nxt c) ∗ room 2 (nxt c) ∗ room 4 (nxt c) ∗ room 6 (nxt c))
  else iprop(room 1 (prv c) ∗ room 3 (prv c) ∗ room 5 (prv c) ∗ room 7 (prv c))

theorem barPay_true (c : Dev nD) : (barPay true c : sProp 𝕄) = iprop(room 0 (nxt c) ∗ room 2 (nxt c) ∗ room 4 (nxt c) ∗ room 6 (nxt c)) := rfl
theorem barPay_false (c : Dev nD) : (barPay false c : sProp 𝕄) = iprop(room 1 (prv c) ∗ room 3 (prv c) ∗ room 5 (prv c) ∗ room 7 (prv c)) := rfl

/-- Which copy a semaphore number serves. -/
def kn (n : DmaSem sig) : Fin 8 := ⟨(n.val + 6) % 8, Nat.mod_lt _ (by decide)⟩
theorem kn_s (k : Fin 8) : kn (sS k) = k := by revert k; decide
theorem kn_r (k : Fin 8) : kn (rS k) = k := by revert k; decide

/-- One round on every cell: two signals on a barrier cell, one landing on a send or receive cell. -/
def talkRd : Rounds.Schedule (GSem nD τ sig) Bool 𝕄 where
  duties g r := if r = 0 ∧ g.1.2 = .tc then (match g.2 with | .reg _ => Finset.univ | .dma n => if 2 ≤ n.val ∧ n.val < 18 then {false} else ∅) else ∅
  unitless _ := False
  amount g _ _ := match g.2 with | .reg _ => 1 | .dma n => amt (kn n)
  payload g _ d := match g.2 with
    | .reg _ => barPay d g.1.1
    | .dma n => if n.val < 10 then sendPay m (kn n) g.1.1 else recvPay m (kn n) g.1.1
  amount_pos g _ _ _ := by
    match g.2 with
    | .reg _ => exact Nat.one_pos
    | .dma n => exact amt_pos _

instance talkRd_payload_storable (g : GSem nD τ sig) (r : ℕ) (d : Bool) :
    BI.Storable (upEmb : UEmb _ 𝕄) ((talkRd (F := F) m).payload g r d) := by
  dsimp only [talkRd]
  match g.2 with
  | .reg _ => dsimp only; unfold barPay room; split <;> infer_instance
  | .dma n => dsimp only; unfold sendPay recvPay; split <;> infer_instance

section Sched

variable (k : Fin 8) (c : Dev nD)

theorem duties_bar : (talkRd (F := F) m).duties (barC c) 0 = Finset.univ := by dsimp only [talkRd]; exact if_pos ⟨rfl, rfl⟩
theorem duties_s : (talkRd (F := F) m).duties (sC k c) 0 = {false} := by
  have := k.isLt
  dsimp only [talkRd]; rw [if_pos ⟨rfl, rfl⟩]; exact if_pos ⟨by show 2 ≤ 2 + k.val; omega, by show 2 + k.val < 18; omega⟩
theorem duties_r : (talkRd (F := F) m).duties (rC k c) 0 = {false} := by
  have := k.isLt
  dsimp only [talkRd]; rw [if_pos ⟨rfl, rfl⟩]; exact if_pos ⟨by show 2 ≤ 10 + k.val; omega, by show 10 + k.val < 18; omega⟩
theorem duties_later (g : GSem nD τ sig) : ∀ r, 1 ≤ r → (talkRd (F := F) m).duties g r = ∅ :=
  fun r hr => by dsimp only [talkRd]; exact if_neg (fun h => by omega)
theorem amount_bar (r : ℕ) (d : Bool) : (talkRd (F := F) m).amount (barC c) r d = 1 := rfl
theorem amount_s (r : ℕ) (d : Bool) : (talkRd (F := F) m).amount (sC k c) r d = amt k := by dsimp only [talkRd]; rw [kn_s]
theorem amount_r (r : ℕ) (d : Bool) : (talkRd (F := F) m).amount (rC k c) r d = amt k := by dsimp only [talkRd]; rw [kn_r]
theorem payload_bar (r : ℕ) (d : Bool) : (talkRd (F := F) m).payload (barC c) r d = barPay d c := rfl
theorem payload_s (r : ℕ) (d : Bool) : (talkRd (F := F) m).payload (sC k c) r d = sendPay m k c := by
  have := k.isLt
  dsimp only [talkRd]; rw [kn_s, if_pos (by show 2 + k.val < 10; omega)]
theorem payload_r (r : ℕ) (d : Bool) : (talkRd (F := F) m).payload (rC k c) r d = recvPay m k c := by
  dsimp only [talkRd]; rw [kn_r, if_neg (by show ¬ 10 + k.val < 10; omega)]
theorem expect_bar : (talkRd (F := F) m).expect (barC c) 0 = 2 := by
  unfold Schedule.expect Schedule.amountOf; rw [duties_bar]; rfl
theorem expect_s : (talkRd (F := F) m).expect (sC k c) 0 = amt k := by
  unfold Schedule.expect Schedule.amountOf; rw [duties_s, Finset.sum_singleton, amount_s]
theorem expect_r : (talkRd (F := F) m).expect (rC k c) 0 = amt k := by
  unfold Schedule.expect Schedule.amountOf; rw [duties_r, Finset.sum_singleton, amount_r]
theorem rest_bar : bigSep ((talkRd (F := F) m).duties (barC c) 0 \ ∅) (fun u => (talkRd (F := F) m).payload (barC c) 0 u)
    = (iprop(barPay true c ∗ barPay false c) : sProp 𝕄) := by
  rw [Finset.sdiff_empty, duties_bar, bigSep_univ_eq_bigSepL [true, false] (by decide) (by decide)]; rfl
theorem rest_s : bigSep ((talkRd (F := F) m).duties (sC k c) 0 \ ∅) (fun u => (talkRd (F := F) m).payload (sC k c) 0 u) = sendPay m k c := by
  rw [Finset.sdiff_empty, duties_s, bigSep_singleton, payload_s]
theorem rest_r : bigSep ((talkRd (F := F) m).duties (rC k c) 0 \ ∅) (fun u => (talkRd (F := F) m).payload (rC k c) 0 u) = recvPay m k c := by
  rw [Finset.sdiff_empty, duties_r, bigSep_singleton, payload_r]

end Sched

/-! ## What a device owes, in the order it pays -/

def pays (c : Dev nD) : List (GSem nD τ sig × ℕ) :=
  [(barC (prv c), 1), (barC (nxt c), 1), (rC 0 (nxt c), amt 0), (rC 1 (prv c), amt 1), (rC 4 (nxt c), amt 4), (rC 2 (nxt c), amt 2),
    (rC 5 (prv c), amt 5), (rC 3 (prv c), amt 3), (rC 6 (nxt c), amt 6), (rC 7 (prv c), amt 7)]

def owedL (l : List (GSem nD τ sig × ℕ)) : CellTallies nD τ sig Unit := l.foldr (fun p O => O + tallyAt p.1 () p.2) 0
/-- Owed when the first `n` payments are made. -/
def Ow (c : Dev nD) (n : ℕ) : CellTallies nD τ sig Unit := owedL ((pays c).drop n)

theorem owedL_apply (l : List (GSem nD τ sig × ℕ)) (g : GSem nD τ sig) : owedL l g () = (l.map fun p => if g = p.1 then p.2 else 0).sum := by
  induction l with
  | nil => rfl
  | cons p l ih =>
    show (owedL l + tallyAt p.1 () p.2) g () = _
    rw [Pi.add_apply, Finsupp.add_apply, tallyAt_apply, ih, List.map_cons, List.sum_cons, Nat.add_comm]
    simp

theorem owedL_pos (l : List (GSem nD τ sig × ℕ)) (g : GSem nD τ sig) (u : Unit) (h : 0 < owedL l g u) : ∃ p ∈ l, g = p.1 := by
  induction l with
  | nil => exact absurd h (Nat.lt_irrefl 0)
  | cons p l ih =>
    have h : 0 < (owedL l + tallyAt p.1 () p.2) g u := h
    rw [Pi.add_apply, Finsupp.add_apply, tallyAt_apply] at h
    by_cases hg : g = p.1 ∧ u = ()
    · exact ⟨p, List.mem_cons_self, hg.1⟩
    · rw [if_neg hg, Nat.add_zero] at h
      obtain ⟨p', hp', e⟩ := ih h
      exact ⟨p', List.mem_cons_of_mem _ hp', e⟩

/-! ## Levels: local copies and sends below the barrier below the first hop below the second -/

def L (g : GSem nD τ sig) : Finset Unit := if g.1.2 = .tc then {()} else ∅
def lvS : SemLoc sig → ℕ
  | .reg _ => 1
  | .dma n => if n.val < 10 then 0 else if n.val < 12 then 2 else if n.val < 16 then 3 else if n.val < 18 then 4 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- The levels owed after `n` payments. -/
def lvls : List ℕ := [1, 1, 2, 2, 3, 3, 3, 3, 4, 4]
theorem pays_lvl (c : Dev nD) : (pays c).map (fun p => lvS p.1.2) = lvls := rfl
theorem pays_tc (c : Dev nD) : ∀ p ∈ pays c, () ∈ L p.1 := by
  intro p hp
  simp only [pays, List.mem_cons, List.not_mem_nil, or_false] at hp
  rcases hp with rfl | rfl | rfl | rfl | rfl | rfl | rfl | rfl | rfl | rfl <;>
    (rw [L_tc]; exact Finset.mem_singleton_self _)

theorem Ow_lvl (c : Dev nD) (n b : ℕ) (hb : ∀ x ∈ lvls.drop n, b < x) (g : GSem nD τ sig) (u : Unit) (h : 0 < Ow c n g u) :
    u ∈ L g ∧ b < lv g u := by
  obtain ⟨p, hp, rfl⟩ := owedL_pos _ _ _ h
  refine ⟨pays_tc c p (List.mem_of_mem_drop hp), hb _ ?_⟩
  rw [← pays_lvl c, ← List.map_drop]
  exact List.mem_map_of_mem (f := fun p : GSem nD τ sig × ℕ => lvS p.1.2) hp

/-- A wait below everything still owed. -/
theorem mayWait (c : Dev nD) (n : ℕ) (sm : SemLoc sig) (hb : ∀ x ∈ lvls.drop n, lvS sm < x) :
    (levAts L lv : sProp 𝕄) ⊢ MayWait (c : Thread nD τ) sm () (Ow c n) :=
  MayOwe.of_cut (L := L) (lev := lv) (lvS sm) (fun p hp => by rw [Finset.mem_singleton.mp hp, L_tc]; exact Finset.mem_singleton_self _)
    (fun g u hg => (Ow_lvl c n (lvS sm) hb g u hg).1)
    (fun p hp => by rw [Finset.mem_singleton.mp hp]; exact Nat.le_refl _)
    (fun g u hg => (Ow_lvl c n (lvS sm) hb g u hg).2)

theorem lvls_pos (n : ℕ) : ∀ x ∈ lvls.drop n, 0 < x := fun x hx =>
  (by decide : ∀ x ∈ lvls, 0 < x) x (List.mem_of_mem_drop hx)
/-- A local wait, below everything. -/
theorem mayWait0 (c : Dev nD) (n : ℕ) (s : DmaSem sig) (h : lvS (.dma s) = 0) :
    (levAts L lv : sProp 𝕄) ⊢ MayWait (c : Thread nD τ) (.dma s) () (Ow c n) :=
  mayWait c n _ (h ▸ lvls_pos n)

/-- The own weights, copied in: the ring's contents at the two windows of slot 0. -/
theorem land_wq (c : Dev nD) (f : Buf (Elt F) (cLoc c)) (v) (hv : v = wqv m c) :
    (F00.view.loc (c : Thread nD τ) ↦[F00.view.set]{fullShare} F00.view.writes (Elt F) f [⟨Rect.whole S1024x1024, v⟩] : sProp 𝕄)
      ⊢ cP c F00.view.set fullShare (commF m c) := by subst hv; exact Entails.of_eq (pointsTo_congr (own_wq c f))
theorem land_wo (c : Dev nD) (f : Buf (Elt F) (cLoc c)) (v) (hv : v = wov m c) :
    (F01.view.loc (c : Thread nD τ) ↦[F01.view.set]{fullShare} F01.view.writes (Elt F) f [⟨Rect.whole S1024x1024, v⟩] : sProp 𝕄)
      ⊢ cP c F01.view.set fullShare (commF m c) := by subst hv; exact Entails.of_eq (pointsTo_congr (own_wo c f))

/-! ## The steps -/

/-- The records every device may consult: all the invariants under one map of names; round 0 of every barrier cell reached. -/
def barEmb : Dev nD ↪ GSem nD τ sig := ⟨fun c => barC c, fun _ _ h => congrArg (fun g : GSem nD τ sig => g.1.1) h⟩
abbrev osem : Fin 22 → SemLoc sig := fun j => .dma ⟨2 + j.val, by have := j.isLt; show 2 + j.val < 24; omega⟩
theorem osem_inj : Function.Injective osem := by
  intro a b h
  have h2 : 2 + a.val = 2 + b.val := congrArg Fin.val (SemLoc.dma.inj h)
  exact Fin.ext (by omega)
def scEmb : Dev nD × Fin 16 ↪ GSem nD τ sig :=
  ⟨fun ck => ((ck.1 : Thread nD τ), osem (ck.2.castLE (by decide))), fun _ _ h =>
    Prod.ext (congrArg (fun g : GSem nD τ sig => g.1.1) h) (Fin.castLE_injective _ (osem_inj (congrArg Prod.snd h)))⟩
abbrev barCells : Finset (GSem nD τ sig) := Finset.univ.map barEmb
abbrev scCells : Finset (GSem nD τ sig) := Finset.univ.map scEmb

def records (κ : GSem nD τ sig → ℕ) : sProp 𝕄 :=
  iprop((bigSep (barCells ∪ scCells) fun g => cellInv ER (talkRd m) (κ g) g) ∗ bigSep barCells fun g => reached ER g 0)

instance records_persistent (κ : GSem nD τ sig → ℕ) : BI.Persistent (records m κ) := by unfold records; infer_instance

theorem bar_mem (c : Dev nD) : barC c ∈ (barCells ∪ scCells : Finset (GSem nD τ sig)) :=
  Finset.mem_union_left _ (Finset.mem_map_of_mem barEmb (Finset.mem_univ c))
theorem s_mem (k : Fin 8) (c : Dev nD) : sC k c ∈ (barCells ∪ scCells : Finset (GSem nD τ sig)) :=
  Finset.mem_union_right _ (Finset.mem_map.mpr ⟨(c, ⟨k.val, by omega⟩), Finset.mem_univ _, rfl⟩)
theorem r_mem (k : Fin 8) (c : Dev nD) : rC k c ∈ (barCells ∪ scCells : Finset (GSem nD τ sig)) :=
  Finset.mem_union_right _ (Finset.mem_map.mpr ⟨(c, ⟨8 + k.val, by omega⟩), Finset.mem_univ _, by
    show (((c : Thread nD τ), (SemLoc.dma (⟨2 + (8 + k.val), _⟩ : DmaSem sig))) : GSem nD τ sig) = rC k c
    congr 2; exact Fin.ext (by show 2 + (8 + k.val) = 10 + k.val; omega)⟩)

theorem inv_at (κ : GSem nD τ sig → ℕ) {g : GSem nD τ sig} (hg : g ∈ (barCells ∪ scCells : Finset (GSem nD τ sig))) :
    records m κ ⊢ cellInv ER (talkRd m) (κ g) g := by
  unfold records; iintro ⟨H, -⟩; iapply (show (bigSep (barCells ∪ scCells) fun g => cellInv ER (talkRd m) (κ g) g : sProp 𝕄) ⊢ cellInv ER (talkRd m) (κ g) g from bigSep_elim (Φ := fun g => (cellInv ER (talkRd m) (κ g) g : sProp 𝕄)) hg); iexact H
theorem reached_at (κ : GSem nD τ sig → ℕ) (c : Dev nD) : records m κ ⊢ reached ER (barC c) 0 := by
  unfold records; iintro ⟨-, H⟩
  iapply (show (bigSep barCells fun g => reached ER g 0 : sProp 𝕄) ⊢ reached ER (barC c) 0 from bigSep_elim (Φ := fun g => (reached ER g 0 : sProp 𝕄)) (Finset.mem_map_of_mem barEmb (Finset.mem_univ c))); iexact H

section Steps

variable (κ : GSem nD τ sig → ℕ) (c : Dev nD)

theorem owes_ex (n : ℕ) (W : Waits sig Unit) : (owes (c : Thread nD τ) (Ow c n) W : sProp 𝕄) ⊢ iprop(∃ W', owes (c : Thread nD τ) (Ow c n) W') := by
  iintro H
  iexists W
  iexact H

/-- REMOTE COPY `k`, from a window of the own ring to the window at the same place of another slot of the neighbour's. -/
theorem step_send {α : Type} (Q : α → sProp 𝕄) (k : Fin 8) (a b : ℕ) (o o' sz : Fin 4 → ℕ) (hsz : sz = ![1, 1, a, b]) (h : ∀ a, o a + sz a ≤ S4x2x1024x1024.size a)
    (h' : ∀ a, o' a + sz a ≤ S4x2x1024x1024.size a) (hq : (Rect.unit (s := S4x2x1024x1024) o sz h).shape.Squeezes ⟨2, ![a, b]⟩)
    (hq' : (Rect.unit (s := S4x2x1024x1024) o' sz h').shape.Squeezes ⟨2, ![a, b]⟩)
    (hp : ∀ s s' : Fin 4, s.val = o 0 → s'.val = o' 0 → peer (tgt k c) s' = peer c s) (h1 : o' 1 = o 1) (h2 : o' 2 = o 2) (h3 : o' 3 = o 3)
    (src dst : Memref sig .tc .vmem ⟨2, ![a, b]⟩ .bf16)
    (hsrcE : src = (cM.slice (Rect.unit (s := S4x2x1024x1024) o sz h) (fun _ => rfl)).squeeze ⟨2, ![a, b]⟩ hq)
    (hdstE : dst = (cM.slice (Rect.unit (s := S4x2x1024x1024) o' sz h') (fun _ => rfl)).squeeze ⟨2, ![a, b]⟩ hq')
    (hsS : srcSet k = ((cM.slice (Rect.unit (s := S4x2x1024x1024) o sz h) (fun _ => rfl)).squeeze ⟨2, ![a, b]⟩ hq).view.set)
    (hdS : dstSet k = ((cM.slice (Rect.unit (s := S4x2x1024x1024) o' sz h') (fun _ => rfl)).squeeze ⟨2, ![a, b]⟩ hq').view.set)
    (hN : ((cM.slice (Rect.unit (s := S4x2x1024x1024) o' sz h') (fun _ => rfl)).squeeze ⟨2, ![a, b]⟩ hq').view.dmaCredit = amt k)
    (dv : Dev nD) (hdv : dv = tgt k c) (S S' : DmaSem sig) (hS : S = sS k) (hS' : S' = rS k) {hsc} {hw1 hw2 hx} (n : ℕ) (W : Waits sig Unit) (hO : Ow c n = Ow c (n + 1) + tallyAt (rC k (tgt k c)) () (amt k))
    (kt : PUnit → Prog (TpuEff nD τ sig (Elt F) Λ₀ .tc) α) :
    iprop(records m κ ∗ cP c (srcSet k) (srcQ k) (commF m c) ∗ room k (tgt k c) ∗ owes (c : Thread nD τ) (Ow c n) W
        ∗ dutyTok ER (sC k c) 0 false ∗ reached ER (sC k c) 0 ∗ dutyTok ER (rC k (tgt k c)) 0 false)
      ⊢ iprop(((cred (tallyAt (sC k c) () (amt k)) ∗ owes (c : Thread nD τ) (Ow c (n + 1)) W)
          -∗ wp frame (wpE (defs₀ (F := F)) 𝒱₀ (c : Thread nD τ) none) Set.univ (kt ⟨⟩) Q)
        -∗ wp frame (wpE (defs₀ (F := F)) 𝒱₀ (c : Thread nD τ) none) Set.univ
          (.op (.enqueueDma src (.remote (Dev.tc dv) dst (.dma S) hsc) (.dma S') hw1 hw2 hx) kt) Q) := by
  subst hsrcE hdstE hdv hS hS'
  unfold room
  iintro ⟨#HR, Hs, ⟨⟨%fd, Hd⟩, #Hr2⟩, HO, Ht1, #Hr1, Ht2⟩
  iintro Hk
  iapply (Rounds.wp_send_pointsTo 𝒱₀ ER (talkRd m) (c : Thread nD τ) none (c' := (tgt k c : Thread nD τ))
      (src := (cM.slice (Rect.unit (s := S4x2x1024x1024) o sz h) (fun _ => rfl)).squeeze ⟨2, ![a, b]⟩ hq)
      (dst := (cM.slice (Rect.unit (s := S4x2x1024x1024) o' sz h') (fun _ => rfl)).squeeze ⟨2, ![a, b]⟩ hq')
      (sS := .dma (sS k)) (sem := .dma (rS k)) (q := srcQ k) (fs := commF m c) (κ₁ := κ (sC k c)) (κ₂ := κ (rC k (tgt k c)))
      (r₁ := 0) (r₂ := 0) (d₁ := false) (d₂ := false) (fd := fd)
      (by rw [duties_s]; exact Finset.mem_singleton_self _) (by rw [duties_r]; exact Finset.mem_singleton_self _)
      () () (amt k) hN (amount_s m k c 0 false) (amount_r m k (tgt k c) 0 false) (Ow c (n + 1)) hO (W := W)
      (by rw [payload_s]; unfold sendPay; rw [hsS])
      (by
        rw [payload_r]; unfold recvPay; rw [hdS]
        exact Entails.of_eq (pointsTo_congr (landed_eq _ _ _ _ _ (read_sq_eq a b o' o sz hsz h' h hq' hq (tgt k c) c (fun s s' e e' => hp s' s e' e) h1 h2 h3)))))
    $$ [Hs Hd HO Ht1 Ht2]
  · isplitr; · iapply (inv_at m κ (s_mem k c)); iexact HR
    isplitr; · iapply (inv_at m κ (r_mem k (tgt k c))); iexact HR
    isplitl [Hs]; · rw [hsS]; iexact Hs
    isplitl [Hd]; · rw [hdS]; iexact Hd
    isplitl [HO]; · iexact HO
    isplitl [Ht1]; · iexact Ht1
    isplitr; · iexact Hr1
    isplitl [Ht2]; · iexact Ht2
    iexact Hr2
  iexact Hk

/-- WAIT for copy `k` to have landed here, while `n` payments are made. -/
theorem step_recv {α : Type} (Q : α → sProp 𝕄) (k : Fin 8) (S : DmaSem sig) (hS : S = rS k) (n : ℕ) (hb : ∀ x ∈ lvls.drop n, lvS (.dma (rS k)) < x) (W : Waits sig Unit)
    {sp sp' : Space} {s s' : Shape} {e e' : EltTy} {src : Memref sig .tc sp' s' e'} {κ' : Kind} {dst : Memref sig κ' sp s e} {hw1 hw2}
    (hN : dst.view.dmaCredit = amt k) (kt : PUnit → Prog (TpuEff nD τ sig (Elt F) Λ₀ .tc) α) :
    iprop(records m κ ∗ levAts L lv ∗ cred (tallyAt (rC k c) () (amt k)) ∗ owes (c : Thread nD τ) (Ow c n) W ∗ atPos ER (rC k c) 0 ∅ 0)
      ⊢ iprop(((owes (c : Thread nD τ) (Ow c n) (insert (.dma (rS k), ()) W) ∗ atPos ER (rC k c) (0 + 1) ∅ 0 ∗ recvPay m k c)
          -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 S src dst hw1 hw2) kt) Q) := by
  subst hS
  iintro ⟨#HR, #Hlev, Hc, HO, Hat⟩ Hk
  iapply (Rounds.wp_wait_rest_token 𝒱₀ ER (talkRd m) (c : Thread nD τ) none (κ := κ (rC k c))
      (wpE_waitDma2_eq 𝒱₀ (c : Thread nD τ) none Set.univ) (Set.mem_univ _) () (O := Ow c n) (W := W) (R := 0) (m := 0) (T := ∅)
      ((Nat.zero_add _).trans (hN.trans (expect_r m k c).symm))) $$ [Hc HO Hat]
  · isplitr; · iapply (inv_at m κ (r_mem k c)); iexact HR
    isplitl [Hc]; · rw [hN]; iexact Hc
    isplitl [HO]; · iexact HO
    isplitr; · iapply (mayWait c n (.dma (rS k)) hb); iexact Hlev
    iexact Hat
  iintro ⟨HO, Hat, -, Hpay⟩
  iapply Hk
  isplitl [HO]; · iexact HO
  isplitl [Hat]; · iexact Hat
  iapply (Entails.of_eq (rest_r m k c)) $$ Hpay

/-- WAIT for copy `k` to have left, owing nothing. -/
theorem step_sent {α : Type} (Q : α → sProp 𝕄) (k : Fin 8) (S : DmaSem sig) (hS : S = sS k) (W : Waits sig Unit)
    {sp sp' : Space} {s s' : Shape} {e e' : EltTy} {src : Memref sig .tc sp' s' e'} {κ' : Kind} {dst : Memref sig κ' sp s e} {hw1 hw2}
    (hN : dst.view.dmaCredit = amt k) (kt : PUnit → Prog (TpuEff nD τ sig (Elt F) Λ₀ .tc) α) :
    iprop(records m κ ∗ cred (tallyAt (sC k c) () (amt k)) ∗ owes (c : Thread nD τ) (Ow c 10) W ∗ atPos ER (sC k c) 0 ∅ 0)
      ⊢ iprop(((owes (c : Thread nD τ) (Ow c 10) (insert (.dma (sS k), ()) W) ∗ atPos ER (sC k c) (0 + 1) ∅ 0 ∗ sendPay m k c)
          -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 S src dst hw1 hw2) kt) Q) := by
  subst hS
  iintro ⟨#HR, Hc, HO, Hat⟩ Hk
  iapply (Rounds.wp_wait_rest_token 𝒱₀ ER (talkRd m) (c : Thread nD τ) none (κ := κ (sC k c))
      (wpE_waitDma2_eq 𝒱₀ (c : Thread nD τ) none Set.univ) (Set.mem_univ _) () (O := Ow c 10) (W := W) (R := 0) (m := 0) (T := ∅)
      ((Nat.zero_add _).trans (hN.trans (expect_s m k c).symm))) $$ [Hc HO Hat]
  · isplitr; · iapply (inv_at m κ (s_mem k c)); iexact HR
    isplitl [Hc]; · rw [hN]; iexact Hc
    isplitl [HO]; · iexact HO
    isplitr; · rw [show Ow c 10 = 0 from rfl, MayWait_zero]; iempintro
    iexact Hat
  iintro ⟨HO, Hat, -, Hpay⟩
  iapply Hk
  isplitl [HO]; · iexact HO
  isplitl [Hat]; · iexact Hat
  iapply (Entails.of_eq (rest_s m k c)) $$ Hpay

/-- The rooms a device offers with its signals. -/
theorem step_signal {α : Type} (Q : α → sProp 𝕄) (d : Bool) (t : Dev nD) (dv : Dev nD) (hdv : dv = t) (S : Sem sig) (hS : S = barS) (a : ℤ) (ha : a = 1)
    (n : ℕ) (W : Waits sig Unit) (hO : Ow c n = Ow c (n + 1) + tallyAt (barC t) () 1) (kt : PUnit → Prog (TpuEff nD τ sig (Elt F) Λ₀ .tc) α) :
    iprop(records m κ ∗ owes (c : Thread nD τ) (Ow c n) W ∗ dutyTok ER (barC t) 0 d ∗ barPay d t)
      ⊢ iprop((owes (c : Thread nD τ) (Ow c (n + 1)) W -∗ wp frame (wpE (defs₀ (F := F)) 𝒱₀ (c : Thread nD τ) none) Set.univ (kt ⟨⟩) Q)
        -∗ wp frame (wpE (defs₀ (F := F)) 𝒱₀ (c : Thread nD τ) none) Set.univ (.op (.semSignal (dv : Thread nD τ) S a) kt) Q) := by
  subst hdv hS ha
  iintro ⟨#HR, HO, Ht, Hp⟩ Hk
  iapply (Rounds.wp_signal 𝒱₀ ER (talkRd m) (c : Thread nD τ) none (dst := (dv : Thread nD τ)) (sem := barS) (r := 0) (d := d) (k' := 1) (κ := κ (barC dv))
      (by rw [duties_bar]; exact Finset.mem_univ _) (amount_bar m dv 0 d) () (Ow c (n + 1)) hO (W := W)) $$ [HO Ht Hp]
  · isplitr; · iapply (inv_at m κ (bar_mem dv)); iexact HR
    isplitl [HO]; · iexact HO
    isplitl [Ht]; · iexact Ht
    isplitl [Hp]; · rw [payload_bar]; iexact Hp
    iapply (reached_at m κ dv); iexact HR
  iexact Hk

/-- WAIT for both neighbours' rooms. -/
theorem step_bar {α : Type} (Q : α → sProp 𝕄) (S : Sem sig) (hS : S = barS) (a : ℤ) (ha : a = 2) (W : Waits sig Unit) (kt : PUnit → Prog (TpuEff nD τ sig (Elt F) Λ₀ .tc) α) :
    iprop(records m κ ∗ levAts L lv ∗ cred (tallyAt (barC c) () 2) ∗ owes (c : Thread nD τ) (Ow c 2) W ∗ atPos ER (barC c) 0 ∅ 0)
      ⊢ iprop(((owes (c : Thread nD τ) (Ow c 2) (insert (.reg barS, ()) W) ∗ atPos ER (barC c) (0 + 1) ∅ 0 ∗ barPay true c ∗ barPay false c)
          -∗ wp frame (wpE (defs₀ (F := F)) 𝒱₀ (c : Thread nD τ) none) Set.univ (kt ⟨⟩) Q)
        -∗ wp frame (wpE (defs₀ (F := F)) 𝒱₀ (c : Thread nD τ) none) Set.univ (.op (.semWait S a) kt) Q) := by
  subst hS ha
  iintro ⟨#HR, #Hlev, Hc, HO, Hat⟩ Hk
  iapply (Rounds.wp_wait_rest_token 𝒱₀ ER (talkRd m) (c : Thread nD τ) none (κ := κ (barC c))
      (wpE_semWait_eq 𝒱₀ (c : Thread nD τ) none Set.univ) (Set.mem_univ _) () (O := Ow c 2) (W := W) (R := 0) (m := 0) (T := ∅)
      ((Nat.zero_add _).trans (expect_bar m c).symm)) $$ [Hc HO Hat]
  · isplitr; · iapply (inv_at m κ (bar_mem c)); iexact HR
    isplitl [Hc]; · iexact Hc
    isplitl [HO]; · iexact HO
    isplitr; · iapply (mayWait c 2 (.reg barS) (by decide)); iexact Hlev
    iexact Hat
  iintro ⟨HO, Hat, -, Hpay⟩
  iapply Hk
  isplitl [HO]; · iexact HO
  isplitl [Hat]; · iexact Hat
  iapply (Entails.of_eq (rest_bar m c)) $$ Hpay

end Steps

/-- What a device holds for copy `k`. -/
def kG (k : Fin 8) (c : Dev nD) : sProp 𝕄 :=
  iprop((atPos ER (sC k c) 0 ∅ 0 ∗ atPos ER (rC k c) 0 ∅ 0 ∗ reached ER (sC k c) 0 ∗ reached ER (rC k c) 0)
    ∗ dutyTok ER (sC k c) 0 false ∗ dutyTok ER (rC k (tgt k c)) 0 false ∗ cred (tallyAt (rC k c) () (amt k)))

theorem kG_open (k : Fin 8) (c : Dev nD) : (kG k c : sProp 𝕄)
    ⊢ iprop((atPos ER (sC k c) 0 ∅ 0 ∗ atPos ER (rC k c) 0 ∅ 0 ∗ reached ER (sC k c) 0 ∗ reached ER (rC k c) 0)
    ∗ dutyTok ER (sC k c) 0 false ∗ dutyTok ER (rC k (tgt k c)) 0 false ∗ cred (tallyAt (rC k c) () (amt k))) := Entails.rfl

/-- The slots copy `k` goes from and to; both name the same device's weights. -/
def sslot : Fin 8 → Fin 4 := ![0, 0, 0, 0, 1, 2, 1, 2]
def dslot : Fin 8 → Fin 4 := ![1, 2, 1, 2, 3, 3, 3, 3]
theorem peer_tgt (k : Fin 8) (c : Dev nD) : peer (tgt k c) (dslot k) = peer c (sslot k) := by revert k c; decide
theorem hp_of (k : Fin 8) (c : Dev nD) (o o' : Fin 4 → ℕ) (ho : (sslot k).val = o 0) (ho' : (dslot k).val = o' 0) :
    ∀ s s' : Fin 4, s.val = o 0 → s'.val = o' 0 → peer (tgt k c) s' = peer c s := fun s s' h h' => by
  rw [show s = sslot k from Fin.ext (h.trans ho.symm), show s' = dslot k from Fin.ext (h'.trans ho'.symm)]; exact peer_tgt k c

/-- The neighbours as the program computes them. -/
theorem dev1_eq (c : Dev nD) (h) : (⟨k0_dev1 c, h⟩ : Dev nD) = prv c := by revert c; decide
theorem dev2_eq (c : Dev nD) (h) : (⟨k0_dev2 c, h⟩ : Dev nD) = nxt c := by revert c; decide
theorem dev3_eq (c : Dev nD) (h) : (⟨k0_dev3 c, h⟩ : Dev nD) = nxt c := by revert c; decide
theorem dev4_eq (c : Dev nD) (h) : (⟨k0_dev4 c, h⟩ : Dev nD) = prv c := by revert c; decide
theorem dev5_eq (c : Dev nD) (h) : (⟨k0_dev5 c, h⟩ : Dev nD) = nxt c := by revert c; decide
theorem dev6_eq (c : Dev nD) (h) : (⟨k0_dev6 c, h⟩ : Dev nD) = nxt c := by revert c; decide
theorem dev7_eq (c : Dev nD) (h) : (⟨k0_dev7 c, h⟩ : Dev nD) = prv c := by revert c; decide
theorem dev8_eq (c : Dev nD) (h) : (⟨k0_dev8 c, h⟩ : Dev nD) = prv c := by revert c; decide
theorem dev9_eq (c : Dev nD) (h) : (⟨k0_dev9 c, h⟩ : Dev nD) = nxt c := by revert c; decide
theorem dev10_eq (c : Dev nD) (h) : (⟨k0_dev10 c, h⟩ : Dev nD) = prv c := by revert c; decide

end Cert.KProof

end
-- ==== Proof.Vals.lean ====
module

public import proofs.«01_k».proof.Proof.Wins

/-! What the kernel's scratch arrays hold, in closed form, and the rules that lead from the pieces written to them: the heads of one
    device's keys and values in block order, the contexts, and the output rows accumulated over the four devices' weights. -/

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## Block order -/

/-- The row at position `ρ` of the block order: residue `ρ / 256` of the block's number, then its quotient. -/
def prm (ρ : ℕ) : ℕ := 64 * (ρ / 256 + 4 * (ρ % 256 / 64)) + ρ % 64
/-- The position of row `t`. -/
def unp (t : ℕ) : ℕ := 256 * (t / 64 % 4) + 64 * (t / 64 / 4) + t % 64
theorem prm_lt {ρ : ℕ} (h : ρ < 1024) : prm ρ < 1024 := by unfold prm; omega
theorem unp_lt {t : ℕ} (h : t < 1024) : unp t < 1024 := by unfold unp; omega
theorem prm_unp {t : ℕ} (h : t < 1024) : prm (unp t) = t := by unfold prm unp; omega
theorem unp_prm {t : ℕ} (h : t < 1024) : unp (prm t) = t := by unfold prm unp; omega
def prF (ρ : Fin 1024) : Fin 1024 := ⟨prm ρ.val, prm_lt ρ.isLt⟩
def unF (t : Fin 1024) : Fin 1024 := ⟨unp t.val, unp_lt t.isLt⟩

/-! ## One step of a list of writes -/

theorem v_step {sp : Space} {s : Shape} {e : EltTy} (v : View sig .tc sp s e) (f : v.ty.Contents (Elt F)) (G : s.Idx → Elt F e)
    (L : List (View.Piece (Elt F) s e)) (Q : s.Idx → Prop) (hL : ∀ y, Q y → v.read (Elt F) (v.writes (Elt F) f L) y = G y)
    (r : Rect s) (p : r.shape.Idx → Elt F e) (hp : ∀ x, p x = G (r.emb x)) :
    ∀ y, (y ∈ r.set ∨ Q y) → v.read (Elt F) (v.writes (Elt F) f (⟨r, p⟩ :: L)) y = G y := by
  intro y hy
  by_cases h : y ∈ r.set
  · obtain ⟨x, rfl⟩ : ∃ x, r.emb x = y := r.exists_idx_of_mem h
    rw [View.read_writes_cons_hit v f r p L x _ rfl]; exact hp x
  · rw [View.read_writes_cons_miss v f ⟨r, p⟩ L y h]; exact hL y (hy.resolve_left h)

theorem mem64 (n : ℕ) (h) (y : S1024x8x128.Idx) :
    y ∈ (Rect.unit (s := S1024x8x128) ![n, 0, 0] S64x8x128.size h).set ↔ n ≤ (y 0).val ∧ (y 0).val < n + 64 := by
  rw [Rect.mem_set_unit, Fin.forall_fin_succ, Fin.forall_fin_succ, Fin.forall_fin_succ]
  have h1 : (y 1).val < 8 := (y 1).isLt
  have h2 : (y 2).val < 128 := (y 2).isLt
  show ((n ≤ (y 0).val ∧ (y 0).val < n + 64) ∧ (0 ≤ (y 1).val ∧ (y 1).val < 0 + 8) ∧ (0 ≤ (y 2).val ∧ (y 2).val < 0 + 128) ∧ _) ↔ _
  constructor
  · rintro ⟨h0, -⟩; exact h0
  · rintro h0; exact ⟨h0, by omega, by omega, fun x => x.elim0⟩

/-- One more block of 64 rows. -/
theorem blk_step {sp : Space} (v : View sig .tc sp S1024x8x128 .f32) (f : v.ty.Contents (Elt F)) (G : S1024x8x128.Idx → Elt F .f32)
    (L : List (View.Piece (Elt F) S1024x8x128 .f32)) (n : ℕ) (hL : ∀ y : S1024x8x128.Idx, (y 0).val < n → v.read (Elt F) (v.writes (Elt F) f L) y = G y) (h)
    (p : S64x8x128.Idx → Elt F .f32) (hp : ∀ x : S64x8x128.Idx, p x = G ((Rect.unit (s := S1024x8x128) ![n, 0, 0] S64x8x128.size h).emb x)) :
    ∀ y : S1024x8x128.Idx, (y 0).val < n + 64 → v.read (Elt F) (v.writes (Elt F) f (⟨Rect.unit (s := S1024x8x128) ![n, 0, 0] S64x8x128.size h, p⟩ :: L)) y = G y := by
  intro y hy
  refine v_step v f G L (fun y => (y 0).val < n) hL (Rect.unit (s := S1024x8x128) ![n, 0, 0] S64x8x128.size h) p hp y ?_
  rw [mem64]
  omega

theorem rd_whole (b : Ref sig .tc) (X : b.ty.Contents (Elt F)) : (Memref.whole b).view.read (Elt F) X = X := rfl

/-! ## Keys and values of one device's heads -/

def kvI (c g : Dev nD) (a : Fin 1024) (b : Fin 8) (d : Fin 128) : S4x1024x32x128.Idx :=
  ix4 c (prF a) (⟨8 * g.val + b.val, by have h : g.val < 4 := g.isLt; have := b.isLt; omega⟩ : Fin 32) d

/-- The heads of device `g`, rows in block order; by row and by head. -/
def kvC (src : S4x1024x32x128.Idx → Elt F .f32) (c g : Dev nD) : S1024x8x128.Idx → Elt F .f32 := fun i => src (kvI c g (i 0) (i 1) (i 2))
def hdC (src : S4x1024x32x128.Idx → Elt F .f32) (c g : Dev nD) : S8x1024x128.Idx → Elt F .f32 := fun i => src (kvI c g (i 1) (i 0) (i 2))

theorem blk_idx (c g : Dev nD) (j : ℕ) (hj : j < 16) (o : Fin 4 → ℕ) (ho : o = ![c.val, 64 * (j / 4 + 4 * (j % 4)), 8 * g.val, 0])
    (h : ∀ a, o a + S1x64x8x128.size a ≤ S4x1024x32x128.size a) (hq : S64x8x128.numel = (Rect.unit (s := S4x1024x32x128) o S1x64x8x128.size h).shape.numel)
    (n : ℕ) (hn : n = 64 * j) (hb : ∀ a, (![n, 0, 0] : Fin 3 → ℕ) a + S64x8x128.size a ≤ S1024x8x128.size a) (x : S64x8x128.Idx) :
    (Rect.unit (s := S4x1024x32x128) o S1x64x8x128.size h).emb (Shape.reshapeEquiv hq x)
      = (fun i : S1024x8x128.Idx => kvI c g (i 0) (i 1) (i 2)) ((Rect.unit (s := S1024x8x128) ![n, 0, 0] S64x8x128.size hb).emb x) := by
  subst ho hn
  obtain ⟨u, v, w, rfl⟩ : ∃ (u : Fin 64) (v : Fin 8) (w : Fin 128), x = ix3 u v w := ⟨x 0, x 1, x 2, by
    funext a; revert a; exact Fin.cases rfl (Fin.cases rfl (Fin.cases rfl (fun k => k.elim0)))⟩
  refine (congrArg (Rect.unit (s := S4x1024x32x128) _ S1x64x8x128.size h).emb (reshapeEquiv_ix3_1abc hq u v w)).trans ?_
  have hx0 : u.val < 64 := u.isLt
  funext a; apply Fin.ext; revert a
  refine Fin.cases ?_ (Fin.cases ?_ (Fin.cases ?_ (Fin.cases ?_ (fun k => k.elim0))))
  · show c.val + 1 * 0 = c.val; omega
  · show 64 * (j / 4 + 4 * (j % 4)) + 1 * u.val = prm (64 * j + 1 * u.val)
    unfold prm; omega
  · show 8 * g.val + 1 * v.val = 8 * g.val + (0 + 1 * v.val); omega
  · show 0 + 1 * w.val = 0 + 1 * w.val; rfl

abbrev kRd (src : S4x1024x32x128.Idx → Elt F .f32) (o : Fin 4 → ℕ) (h : ∀ a, o a + S1x64x8x128.size a ≤ S4x1024x32x128.size a) : S64x8x128.Idx → Elt F .f32 :=
  ReadAs.same.apply (((kM.slice (Rect.unit (s := S4x1024x32x128) o S1x64x8x128.size h) (fun _ => rfl)).squeeze S64x8x128 squeezes_S1x64x8x128_S64x8x128).view.read (Elt F) src)
abbrev vRd (src : S4x1024x32x128.Idx → Elt F .f32) (o : Fin 4 → ℕ) (h : ∀ a, o a + S1x64x8x128.size a ≤ S4x1024x32x128.size a) : S64x8x128.Idx → Elt F .f32 :=
  ReadAs.same.apply (((vM.slice (Rect.unit (s := S4x1024x32x128) o S1x64x8x128.size h) (fun _ => rfl)).squeeze S64x8x128 squeezes_S1x64x8x128_S64x8x128).view.read (Elt F) src)

theorem kRd_at (src : S4x1024x32x128.Idx → Elt F .f32) (c g : Dev nD) (j : Fin 16) (o : Fin 4 → ℕ) (h) (ho : o = ![c.val, 64 * (j.val / 4 + 4 * (j.val % 4)), 8 * g.val, 0])
    (n : ℕ) (hn : n = 64 * j.val) (hb : ∀ a, (![n, 0, 0] : Fin 3 → ℕ) a + S64x8x128.size a ≤ S1024x8x128.size a) (x : S64x8x128.Idx) :
    kRd src o h x = kvC src c g ((Rect.unit (s := S1024x8x128) ![n, 0, 0] S64x8x128.size hb).emb x) :=
  congrArg src (blk_idx c g j.val j.isLt o ho h squeezes_S1x64x8x128_S64x8x128.numel_eq n hn hb x)
theorem vRd_at (src : S4x1024x32x128.Idx → Elt F .f32) (c g : Dev nD) (j : Fin 16) (o : Fin 4 → ℕ) (h) (ho : o = ![c.val, 64 * (j.val / 4 + 4 * (j.val % 4)), 8 * g.val, 0])
    (n : ℕ) (hn : n = 64 * j.val) (hb : ∀ a, (![n, 0, 0] : Fin 3 → ℕ) a + S64x8x128.size a ≤ S1024x8x128.size a) (x : S64x8x128.Idx) :
    vRd src o h x = kvC src c g ((Rect.unit (s := S1024x8x128) ![n, 0, 0] S64x8x128.size hb).emb x) :=
  congrArg src (blk_idx c g j.val j.isLt o ho h squeezes_S1x64x8x128_S64x8x128.numel_eq n hn hb x)

/-- The sixteen blocks of rows, newest first. -/
abbrev blks (p : Fin 16 → S64x8x128.Idx → Elt F .f32) (L : List (View.Piece (Elt F) S1024x8x128 .f32)) : List (View.Piece (Elt F) S1024x8x128 .f32) :=
  ⟨Rect.unit ![960, 0, 0] S64x8x128.size (by decide), p 15⟩ :: ⟨Rect.unit ![896, 0, 0] S64x8x128.size (by decide), p 14⟩ ::
   ⟨Rect.unit ![832, 0, 0] S64x8x128.size (by decide), p 13⟩ :: ⟨Rect.unit ![768, 0, 0] S64x8x128.size (by decide), p 12⟩ ::
   ⟨Rect.unit ![704, 0, 0] S64x8x128.size (by decide), p 11⟩ :: ⟨Rect.unit ![640, 0, 0] S64x8x128.size (by decide), p 10⟩ ::
   ⟨Rect.unit ![576, 0, 0] S64x8x128.size (by decide), p 9⟩ :: ⟨Rect.unit ![512, 0, 0] S64x8x128.size (by decide), p 8⟩ ::
   ⟨Rect.unit ![448, 0, 0] S64x8x128.size (by decide), p 7⟩ :: ⟨Rect.unit ![384, 0, 0] S64x8x128.size (by decide), p 6⟩ ::
   ⟨Rect.unit ![320, 0, 0] S64x8x128.size (by decide), p 5⟩ :: ⟨Rect.unit ![256, 0, 0] S64x8x128.size (by decide), p 4⟩ ::
   ⟨Rect.unit ![192, 0, 0] S64x8x128.size (by decide), p 3⟩ :: ⟨Rect.unit ![128, 0, 0] S64x8x128.size (by decide), p 2⟩ ::
   ⟨Rect.unit ![64, 0, 0] S64x8x128.size (by decide), p 1⟩ :: ⟨Rect.unit ![0, 0, 0] S64x8x128.size (by decide), p 0⟩ :: L

theorem blks_eq {sp : Space} (v : View sig .tc sp S1024x8x128 .f32) (f : v.ty.Contents (Elt F)) (G : S1024x8x128.Idx → Elt F .f32)
    (p : Fin 16 → S64x8x128.Idx → Elt F .f32)
    (hp : ∀ (j : Fin 16) (n : ℕ) (hn : n = 64 * j.val) (hb : ∀ a, (![n, 0, 0] : Fin 3 → ℕ) a + S64x8x128.size a ≤ S1024x8x128.size a) (x : S64x8x128.Idx),
      p j x = G ((Rect.unit (s := S1024x8x128) ![n, 0, 0] S64x8x128.size hb).emb x)) (L : List (View.Piece (Elt F) S1024x8x128 .f32)) (y : S1024x8x128.Idx) :
    v.read (Elt F) (v.writes (Elt F) f (blks p L)) y = G y := by
  refine ((blk_step v f G _ 960 (blk_step v f G _ 896 (blk_step v f G _ 832 (blk_step v f G _ 768
    (blk_step v f G _ 704 (blk_step v f G _ 640 (blk_step v f G _ 576 (blk_step v f G _ 512
    (blk_step v f G _ 448 (blk_step v f G _ 384 (blk_step v f G _ 320 (blk_step v f G _ 256
    (blk_step v f G _ 192 (blk_step v f G _ 128 (blk_step v f G _ 64 (blk_step v f G _ 0 (fun y h => absurd h (Nat.not_lt_zero _)) _ (p 0) (hp 0 0 rfl _)) _ (p 1) (hp 1 64 rfl _)) _ (p 2) (hp 2 128 rfl _)) _ (p 3) (hp 3 192 rfl _)) _ (p 4) (hp 4 256 rfl _)) _ (p 5) (hp 5 320 rfl _)) _ (p 6) (hp 6 384 rfl _)) _ (p 7) (hp 7 448 rfl _)) _ (p 8) (hp 8 512 rfl _)) _ (p 9) (hp 9 576 rfl _)) _ (p 10) (hp 10 640 rfl _)) _ (p 11) (hp 11 704 rfl _)) _ (p 12) (hp 12 768 rfl _)) _ (p 13) (hp 13 832 rfl _)) _ (p 14) (hp 14 896 rfl _)) _ (p 15) (hp 15 960 rfl _))) y ?_
  exact (y 0).isLt

/-- The row-major scratch after its sixteen copies. -/
theorem kb_all (src : S4x1024x32x128.Idx → Elt F .f32) (c g : Dev nD) (f : S1024x8x128.Idx → Elt F .f32) (L : List (View.Piece (Elt F) S1024x8x128 .f32)) (o : Fin 16 → Fin 4 → ℕ)
    (h : ∀ j a, o j a + S1x64x8x128.size a ≤ S4x1024x32x128.size a) (ho : ∀ j : Fin 16, o j = ![c.val, 64 * (j.val / 4 + 4 * (j.val % 4)), 8 * g.val, 0]) :
    kbM.view.writes (Elt F) f (blks (fun j => kRd src (o j) (h j)) L) = kvC src c g :=
  (rd_whole cc0_scratch1 _).symm.trans <| funext fun y => blks_eq kbM.view f (kvC src c g) _ (fun j n hn hb x => kRd_at src c g j (o j) (h j) (ho j) n hn hb x) L y
theorem vb_all (src : S4x1024x32x128.Idx → Elt F .f32) (c g : Dev nD) (f : S1024x8x128.Idx → Elt F .f32) (L : List (View.Piece (Elt F) S1024x8x128 .f32)) (o : Fin 16 → Fin 4 → ℕ)
    (h : ∀ j a, o j a + S1x64x8x128.size a ≤ S4x1024x32x128.size a) (ho : ∀ j : Fin 16, o j = ![c.val, 64 * (j.val / 4 + 4 * (j.val % 4)), 8 * g.val, 0]) :
    vbM.view.writes (Elt F) f (blks (fun j => vRd src (o j) (h j)) L) = kvC src c g :=
  (rd_whole cc0_scratch2 _).symm.trans <| funext fun y => blks_eq vbM.view f (kvC src c g) _ (fun j n hn hb x => vRd_at src c g j (o j) (h j) (ho j) n hn hb x) L y

theorem reshapeEquiv_ix2_a1b {a b : ℕ} (h : (⟨2, ![a, b]⟩ : Shape).numel = (⟨3, ![a, 1, b]⟩ : Shape).numel) (x : Fin a) (y : Fin b) :
    Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

theorem ix3_eta {a b d : ℕ} (j : (⟨3, ![a, b, d]⟩ : Shape).Idx) : j = ix3 (j 0) (j 1) (j 2) := by
  funext k; revert k; exact Fin.cases rfl (Fin.cases rfl (Fin.cases rfl (fun k => k.elim0)))

/-- Where element `(a, d)` of head `k`'s plane is. -/
theorem hd_idx (k : Fin 8) (o : ℕ) (ho : o = k.val) (h : ∀ a, (![o, 0, 0] : Fin 3 → ℕ) a + S1x1024x128.size a ≤ S8x1024x128.size a)
    (hq : S1024x128.numel = (Rect.unit (s := S8x1024x128) ![o, 0, 0] S1x1024x128.size h).shape.numel) (a : Fin 1024) (d : Fin 128) :
    (Rect.unit (s := S8x1024x128) ![o, 0, 0] S1x1024x128.size h).emb (Shape.reshapeEquiv hq (ix2 a d)) = ix3 k a d := by
  subst ho
  rw [show Shape.reshapeEquiv hq (ix2 a d) = ix3 (⟨0, Nat.one_pos⟩ : Fin 1) a d from reshapeEquiv_ix2_1ab hq a d]
  funext t; apply Fin.ext; revert t
  refine Fin.cases ?_ (Fin.cases ?_ (Fin.cases ?_ (fun k => k.elim0)))
  · show k.val + 1 * 0 = k.val; omega
  · show 0 + 1 * a.val = a.val; omega
  · show 0 + 1 * d.val = d.val; omega

theorem row_idx (k : Fin 8) (o : ℕ) (ho : o = k.val) (h : ∀ a, (![0, o, 0] : Fin 3 → ℕ) a + S1024x1x128.size a ≤ S1024x8x128.size a)
    (hq : S1024x128.numel = (Rect.unit (s := S1024x8x128) ![0, o, 0] S1024x1x128.size h).shape.numel) (a : Fin 1024) (d : Fin 128) :
    (Rect.unit (s := S1024x8x128) ![0, o, 0] S1024x1x128.size h).emb (Shape.reshapeEquiv hq (ix2 a d)) = ix3 a k d := by
  subst ho
  rw [show Shape.reshapeEquiv hq (ix2 a d) = ix3 a (⟨0, Nat.one_pos⟩ : Fin 1) d from reshapeEquiv_ix2_a1b hq a d]
  funext t; apply Fin.ext; revert t
  refine Fin.cases ?_ (Fin.cases ?_ (Fin.cases ?_ (fun k => k.elim0)))
  · show 0 + 1 * a.val = a.val; omega
  · show k.val + 1 * 0 = k.val; omega
  · show 0 + 1 * d.val = d.val; omega

/-- One more head's plane written, through a view of the plane. -/
theorem plane_step {sp : Space} (v : View sig .tc sp S1024x128 .f32) (G X : v.ty.Contents (Elt F)) (Q P : v.ty.Idx → Prop)
    (p : S1024x128.Idx → Elt F .f32) (hp : ∀ x, p x = v.read (Elt F) G x) (hX : ∀ i, Q i → X i = G i) (hP : ∀ i, P i → Q i ∨ i ∈ v.set) :
    ∀ i, P i → v.write (Elt F) X p Finset.univ i = G i := by
  intro i hi
  by_cases h : i ∈ v.set
  · exact eqOn_of_read v ((View.read_write_univ _ _).trans (funext hp)) i h
  · rw [View.write_of_not_mem _ _ _ (by rwa [View.setOn_univ])]
    exact hX i ((hP i hi).resolve_right h)

abbrev khV (k : ℕ) (h : ∀ a, (![k, 0, 0] : Fin 3 → ℕ) a + S1x1024x128.size a ≤ S8x1024x128.size a) :=
  ((khM.slice (Rect.unit (s := S8x1024x128) ![k, 0, 0] S1x1024x128.size h) (fun _ => rfl)).squeeze S1024x128 squeezes_S1x1024x128_S1024x128).view
abbrev vhV (k : ℕ) (h : ∀ a, (![k, 0, 0] : Fin 3 → ℕ) a + S1x1024x128.size a ≤ S8x1024x128.size a) :=
  ((vhM.slice (Rect.unit (s := S8x1024x128) ![k, 0, 0] S1x1024x128.size h) (fun _ => rfl)).squeeze S1024x128 squeezes_S1x1024x128_S1024x128).view
abbrev kbRd (X : S1024x8x128.Idx → Elt F .f32) (k : ℕ) (h : ∀ a, (![0, k, 0] : Fin 3 → ℕ) a + S1024x1x128.size a ≤ S1024x8x128.size a) : S1024x128.Idx → Elt F .f32 :=
  ReadAs.same.apply (((kbM.slice (Rect.unit (s := S1024x8x128) ![0, k, 0] S1024x1x128.size h) (fun _ => rfl)).squeeze S1024x128 squeezes_S1024x1x128_S1024x128).view.read (Elt F) X)
abbrev vbRd (X : S1024x8x128.Idx → Elt F .f32) (k : ℕ) (h : ∀ a, (![0, k, 0] : Fin 3 → ℕ) a + S1024x1x128.size a ≤ S1024x8x128.size a) : S1024x128.Idx → Elt F .f32 :=
  ReadAs.same.apply (((vbM.slice (Rect.unit (s := S1024x8x128) ![0, k, 0] S1024x1x128.size h) (fun _ => rfl)).squeeze S1024x128 squeezes_S1024x1x128_S1024x128).view.read (Elt F) X)

abbrev khW (k : ℕ) (h : ∀ a, (![k, 0, 0] : Fin 3 → ℕ) a + S1x1024x128.size a ≤ S8x1024x128.size a) (X : S8x1024x128.Idx → Elt F .f32)
    (p : S1024x128.Idx → Elt F .f32) : S8x1024x128.Idx → Elt F .f32 := (khV k h).write (Elt F) X p Finset.univ
theorem khV_mem (k : Fin 8) (o : ℕ) (ho : o = k.val) (h) (i : S8x1024x128.Idx) (hi : i 0 = k) : i ∈ (khV o h).set := by
  have e : (khV o h).emb (ix2 (i 1) (i 2)) = i :=
    (hd_idx k o ho h squeezes_S1x1024x128_S1024x128.numel_eq (i 1) (i 2)).trans (by rw [← hi]; exact (ix3_eta i).symm)
  exact e ▸ View.emb_mem_set _ _
abbrev vhW (k : ℕ) (h : ∀ a, (![k, 0, 0] : Fin 3 → ℕ) a + S1x1024x128.size a ≤ S8x1024x128.size a) (X : S8x1024x128.Idx → Elt F .f32)
    (p : S1024x128.Idx → Elt F .f32) : S8x1024x128.Idx → Elt F .f32 := (vhV k h).write (Elt F) X p Finset.univ
theorem vhV_mem (k : Fin 8) (o : ℕ) (ho : o = k.val) (h) (i : S8x1024x128.Idx) (hi : i 0 = k) : i ∈ (vhV o h).set := by
  have e : (vhV o h).emb (ix2 (i 1) (i 2)) = i :=
    (hd_idx k o ho h squeezes_S1x1024x128_S1024x128.numel_eq (i 1) (i 2)).trans (by rw [← hi]; exact (ix3_eta i).symm)
  exact e ▸ View.emb_mem_set _ _

theorem kh_step (src : S4x1024x32x128.Idx → Elt F .f32) (c g : Dev nD) (X : S8x1024x128.Idx → Elt F .f32) (k : ℕ) (hk : k < 8) (h h')
    (hX : ∀ i : S8x1024x128.Idx, (i 0).val < k → X i = hdC src c g i) (i : S8x1024x128.Idx) (hi : (i 0).val < k + 1) :
    khW k h X (kbRd (kvC src c g) k h') i = hdC src c g i := by
  refine plane_step (khV k h) (hdC src c g) X (fun i : S8x1024x128.Idx => (i 0).val < k) (fun i : S8x1024x128.Idx => (i 0).val < k + 1) _ ?_ hX ?_ i hi
  · intro x
    rw [ix2_eta x]
    exact (congrArg (kvC src c g) (row_idx ⟨k, hk⟩ k rfl h' squeezes_S1024x1x128_S1024x128.numel_eq (x 0) (x 1))).trans
      (congrArg (hdC src c g) (hd_idx ⟨k, hk⟩ k rfl h squeezes_S1x1024x128_S1024x128.numel_eq (x 0) (x 1))).symm
  · intro i hi
    rcases Nat.lt_succ_iff_lt_or_eq.mp hi with h1 | h1
    · exact Or.inl h1
    · exact Or.inr (khV_mem ⟨k, hk⟩ k rfl h i (Fin.ext h1))
theorem vh_step (src : S4x1024x32x128.Idx → Elt F .f32) (c g : Dev nD) (X : S8x1024x128.Idx → Elt F .f32) (k : ℕ) (hk : k < 8) (h h')
    (hX : ∀ i : S8x1024x128.Idx, (i 0).val < k → X i = hdC src c g i) (i : S8x1024x128.Idx) (hi : (i 0).val < k + 1) :
    vhW k h X (vbRd (kvC src c g) k h') i = hdC src c g i := by
  refine plane_step (vhV k h) (hdC src c g) X (fun i : S8x1024x128.Idx => (i 0).val < k) (fun i : S8x1024x128.Idx => (i 0).val < k + 1) _ ?_ hX ?_ i hi
  · intro x
    rw [ix2_eta x]
    exact (congrArg (kvC src c g) (row_idx ⟨k, hk⟩ k rfl h' squeezes_S1024x1x128_S1024x128.numel_eq (x 0) (x 1))).trans
      (congrArg (hdC src c g) (hd_idx ⟨k, hk⟩ k rfl h squeezes_S1x1024x128_S1024x128.numel_eq (x 0) (x 1))).symm
  · intro i hi
    rcases Nat.lt_succ_iff_lt_or_eq.mp hi with h1 | h1
    · exact Or.inl h1
    · exact Or.inr (vhV_mem ⟨k, hk⟩ k rfl h i (Fin.ext h1))

/-- The scratch by head after its eight copies. -/
theorem kh_all (src : S4x1024x32x128.Idx → Elt F .f32) (c g : Dev nD) (f : S8x1024x128.Idx → Elt F .f32) (X : S1024x8x128.Idx → Elt F .f32) (hX : X = kvC src c g) :
    khW 7 (by decide) (khW 6 (by decide) (khW 5 (by decide) (khW 4 (by decide) (khW 3 (by decide) (khW 2 (by decide) (khW 1 (by decide) (khW 0 (by decide) f (kbRd X 0 (by decide))) (kbRd X 1 (by decide))) (kbRd X 2 (by decide)))
      (kbRd X 3 (by decide))) (kbRd X 4 (by decide))) (kbRd X 5 (by decide))) (kbRd X 6 (by decide))) (kbRd X 7 (by decide))
      = hdC src c g := by
  subst hX
  funext i
  have h0 := kh_step src c g f 0 (by decide) (by decide) (by decide) (fun i h => absurd h (Nat.not_lt_zero _))
  have h1 := kh_step src c g _ 1 (by decide) (by decide) (by decide) h0
  have h2 := kh_step src c g _ 2 (by decide) (by decide) (by decide) h1
  have h3 := kh_step src c g _ 3 (by decide) (by decide) (by decide) h2
  have h4 := kh_step src c g _ 4 (by decide) (by decide) (by decide) h3
  have h5 := kh_step src c g _ 5 (by decide) (by decide) (by decide) h4
  have h6 := kh_step src c g _ 6 (by decide) (by decide) (by decide) h5
  have h7 := kh_step src c g _ 7 (by decide) (by decide) (by decide) h6
  exact h7 i (i 0).isLt
theorem vh_all (src : S4x1024x32x128.Idx → Elt F .f32) (c g : Dev nD) (f : S8x1024x128.Idx → Elt F .f32) (X : S1024x8x128.Idx → Elt F .f32) (hX : X = kvC src c g) :
    vhW 7 (by decide) (vhW 6 (by decide) (vhW 5 (by decide) (vhW 4 (by decide) (vhW 3 (by decide) (vhW 2 (by decide) (vhW 1 (by decide) (vhW 0 (by decide) f (vbRd X 0 (by decide))) (vbRd X 1 (by decide))) (vbRd X 2 (by decide)))
      (vbRd X 3 (by decide))) (vbRd X 4 (by decide))) (vbRd X 5 (by decide))) (vbRd X 6 (by decide))) (vbRd X 7 (by decide))
      = hdC src c g := by
  subst hX
  funext i
  have h0 := vh_step src c g f 0 (by decide) (by decide) (by decide) (fun i h => absurd h (Nat.not_lt_zero _))
  have h1 := vh_step src c g _ 1 (by decide) (by decide) (by decide) h0
  have h2 := vh_step src c g _ 2 (by decide) (by decide) (by decide) h1
  have h3 := vh_step src c g _ 3 (by decide) (by decide) (by decide) h2
  have h4 := vh_step src c g _ 4 (by decide) (by decide) (by decide) h3
  have h5 := vh_step src c g _ 5 (by decide) (by decide) (by decide) h4
  have h6 := vh_step src c g _ 6 (by decide) (by decide) (by decide) h5
  have h7 := vh_step src c g _ 7 (by decide) (by decide) (by decide) h6
  exact h7 i (i 0).isLt

/-! ## The offsets of the block copies -/

abbrev of0 (c : Dev nD) : Fin 16 → Fin 4 → ℕ := ![k0_off1 c, k0_off2 c, k0_off3 c, k0_off4 c, k0_off5 c, k0_off6 c, k0_off7 c, k0_off8 c, k0_off9 c,
  k0_off10 c, k0_off11 c, k0_off12 c, k0_off13 c, k0_off14 c, k0_off15 c, k0_off16 c]
abbrev of1 (c : Dev nD) : Fin 16 → Fin 4 → ℕ := ![k0_off17 c, k0_off18 c, k0_off19 c, k0_off20 c, k0_off21 c, k0_off22 c, k0_off23 c, k0_off24 c, k0_off25 c,
  k0_off26 c, k0_off27 c, k0_off28 c, k0_off29 c, k0_off30 c, k0_off31 c, k0_off32 c]
abbrev of2 (c : Dev nD) (w : BitVec 32) : Fin 16 → Fin 4 → ℕ := ![k0_off33 c w, k0_off34 c w, k0_off35 c w, k0_off36 c w, k0_off37 c w, k0_off38 c w, k0_off39 c w, k0_off40 c w,
  k0_off41 c w, k0_off42 c w, k0_off43 c w, k0_off44 c w, k0_off45 c w, k0_off46 c w, k0_off47 c w, k0_off48 c w]
theorem of0_eq (c : Dev nD) : ∀ j : Fin 16, of0 c j = ![c.val, 64 * (j.val / 4 + 4 * (j.val % 4)), 8 * (peer c 0).val, 0] := by revert c; decide +kernel
theorem of1_eq (c : Dev nD) : ∀ j : Fin 16, of1 c j = ![c.val, 64 * (j.val / 4 + 4 * (j.val % 4)), 8 * (peer c 1).val, 0] := by revert c; decide +kernel
theorem of2_eq (c : Dev nD) : ∀ j : Fin 16, of2 c 1#32 j = ![c.val, 64 * (j.val / 4 + 4 * (j.val % 4)), 8 * (peer c 2).val, 0] := by revert c; decide +kernel
theorem of3_eq (c : Dev nD) : ∀ j : Fin 16, of2 c 2#32 j = ![c.val, 64 * (j.val / 4 + 4 * (j.val % 4)), 8 * (peer c 3).val, 0] := by revert c; decide +kernel
theorem of_inb (c g : Dev nD) (o : Fin 16 → Fin 4 → ℕ) (ho : ∀ j : Fin 16, o j = ![c.val, 64 * (j.val / 4 + 4 * (j.val % 4)), 8 * g.val, 0]) :
    ∀ j a, o j a + S1x64x8x128.size a ≤ S4x1024x32x128.size a := by
  intro j a
  rw [ho j]
  have hc : c.val < 4 := c.isLt
  have hg : g.val < 4 := g.isLt
  have hj := j.isLt
  revert a
  refine Fin.cases ?_ (Fin.cases ?_ (Fin.cases ?_ (Fin.cases ?_ (fun k => k.elim0))))
  · show c.val + 1 ≤ 4; omega
  · show 64 * (j.val / 4 + 4 * (j.val % 4)) + 64 ≤ 1024; omega
  · show 8 * g.val + 8 ≤ 32; omega
  · show 0 + 128 ≤ 128; omega

end Cert.KProof

end
-- ==== Proof.Vals2.lean ====
module

public import proofs.«01_k».proof.Proof.Talk
public import proofs.«01_k».proof.Proof.Vals

/-! Restating what a window of the kernel holds. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem re_kh (c : Dev nD) (g : S8x1024x128.Idx → Elt F .f32) {f : S8x1024x128.Idx → Elt F .f32} (h : f = g) :
    (khM.view.loc (c : Thread nD τ) ↦{fullShare} f : sProp 𝕄) ⊢ (khM.view.loc (c : Thread nD τ) ↦{fullShare} g : sProp 𝕄) :=
  Entails.of_eq (congrArg (fun f => (khM.view.loc (c : Thread nD τ) ↦{fullShare} f : sProp 𝕄)) h)
theorem re_vh (c : Dev nD) (g : S8x1024x128.Idx → Elt F .f32) {f : S8x1024x128.Idx → Elt F .f32} (h : f = g) :
    (vhM.view.loc (c : Thread nD τ) ↦{fullShare} f : sProp 𝕄) ⊢ (vhM.view.loc (c : Thread nD τ) ↦{fullShare} g : sProp 𝕄) :=
  Entails.of_eq (congrArg (fun f => (vhM.view.loc (c : Thread nD τ) ↦{fullShare} f : sProp 𝕄)) h)

end Cert.KProof
end
-- ==== Proof.RunA.lean ====
module

public import proofs.«01_k».proof.Proof.Talk
public import proofs.«01_k».proof.Proof.Vals2

/-! The kernel's run on device `c`, first stretch: the copies into the scratch arrays issued, the barrier with the neighbours, the own
    weights in, and the first two remote copies out. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What device `c` holds when the kernel starts, with what is left for afterwards (`R`). -/
def Pre (c : Dev nD) (κ : GSem nD τ sig → ℕ) (xb : Buf (Elt F) (xM.view.loc (c : Thread nD τ))) (W : Waits sig Unit)
    (fo : Buf (Elt F) (oM.view.loc (c : Thread nD τ))) (fc : Buf (Elt F) (cM.view.loc (c : Thread nD τ)))
    (fkb : Buf (Elt F) (kbM.view.loc (c : Thread nD τ))) (fvb : Buf (Elt F) (vbM.view.loc (c : Thread nD τ)))
    (fkh : Buf (Elt F) (khM.view.loc (c : Thread nD τ))) (fvh : Buf (Elt F) (vhM.view.loc (c : Thread nD τ)))
    (fct : Buf (Elt F) (ctM.view.loc (c : Thread nD τ))) (R : sProp 𝕄) : sProp 𝕄 :=
    iprop(records m κ ∗ levAts L lv
      ∗ (xM.view.loc (c : Thread nD τ) ↦{fullShare} xb) ∗ (oM.view.loc (c : Thread nD τ) ↦{fullShare} fo)
      ∗ (wqM.view.loc (c : Thread nD τ) ↦{fullShare} wqv m c) ∗ (woM.view.loc (c : Thread nD τ) ↦{fullShare} wov m c)
      ∗ (kM.view.loc (c : Thread nD τ) ↦{fullShare} V m c main_arg2) ∗ (vM.view.loc (c : Thread nD τ) ↦{fullShare} V m c main_arg3)
      ∗ (cM.view.loc (c : Thread nD τ) ↦{fullShare} fc)
      ∗ (kbM.view.loc (c : Thread nD τ) ↦{fullShare} fkb) ∗ (vbM.view.loc (c : Thread nD τ) ↦{fullShare} fvb)
      ∗ (khM.view.loc (c : Thread nD τ) ↦{fullShare} fkh) ∗ (vhM.view.loc (c : Thread nD τ) ↦{fullShare} fvh)
      ∗ (ctM.view.loc (c : Thread nD τ) ↦{fullShare} fct)
      ∗ semVal ((c : Thread nD τ), sd 18) 0 ∗ semVal ((c : Thread nD τ), sd 19) 0
      ∗ semVal ((c : Thread nD τ), sd 20) 0 ∗ semVal ((c : Thread nD τ), sd 21) 0
      ∗ semVal ((c : Thread nD τ), sd 22) 0 ∗ semVal ((c : Thread nD τ), sd 23) 0
      ∗ owes (c : Thread nD τ) (Ow c 0) W
      ∗ (atPos ER (barC c) 0 ∅ 0 ∗ cred (tallyAt (barC c) () 2) ∗ dutyTok ER (barC (prv c)) 0 true ∗ dutyTok ER (barC (nxt c)) 0 false)
      ∗ kG 0 c ∗ kG 1 c ∗ kG 2 c ∗ kG 3 c ∗ kG 4 c ∗ kG 5 c ∗ kG 6 c ∗ kG 7 c ∗ R)

def runA (c : Dev nD) (κ : GSem nD τ sig → ℕ) (xb : Buf (Elt F) (xM.view.loc (c : Thread nD τ))) (W : Waits sig Unit)
    (fo : Buf (Elt F) (oM.view.loc (c : Thread nD τ))) (fc : Buf (Elt F) (cM.view.loc (c : Thread nD τ)))
    (fkb : Buf (Elt F) (kbM.view.loc (c : Thread nD τ))) (fvb : Buf (Elt F) (vbM.view.loc (c : Thread nD τ)))
    (fkh : Buf (Elt F) (khM.view.loc (c : Thread nD τ))) (fvh : Buf (Elt F) (vhM.view.loc (c : Thread nD τ)))
    (fct : Buf (Elt F) (ctM.view.loc (c : Thread nD τ))) (R : sProp 𝕄)
    (_plan20 : Transfers.BatchOf (c : Thread nD τ) (sd 20) 16 (windows := true))
    (_plan21 : Transfers.BatchOf (c : Thread nD τ) (sd 21) 16 (windows := true))
    (_plan22 : Transfers.BatchOf (c : Thread nD τ) (sd 22) 8 (windows := true))
    (_plan23 : Transfers.BatchOf (c : Thread nD τ) (sd 23) 8 (windows := true)) (K : PUnit → sProp 𝕄) :
    Σ' (G : Prop), G → (Pre m c κ xb W fo fc fkb fvb fkh fvh fct R
      ⊢ wp frame (wpE (defs₀ (F := F)) 𝒱₀ (c : Thread nD τ) none) Set.univ (body (F := F)) K) := by
  sl_stretch
  unfold Pre
  iintro ⟨#HR, #HL, Hx, Ho, Hwq, Hwo, HK, HV, HC, Hkb, Hvb, Hkh, Hvh, Hct, Hs18, Hs19, Hs20, Hs21, Hs22, Hs23, HO, ⟨Hba, Hbc, Hbp, Hbn⟩,
    HG0, HG1, HG2, HG3, HG4, HG5, HG6, HG7, HRest⟩
  ihave HC' := (Entails.of_eq (cP_univ c fullShare fc)) $$ HC
  icases HC' with ⟨Hc00, Hc01, Hc10, Hc11, Hc20, Hc21, Hc30, Hc31⟩
  ihave Hc00 := (show cP c F00.view.set fullShare fc ⊢ (F00.view.loc (c : Thread nD τ) ↦[F00.view.set]{fullShare} fc : sProp 𝕄) from Entails.rfl) $$ Hc00
  ihave Hc01 := (show cP c F01.view.set fullShare fc ⊢ (F01.view.loc (c : Thread nD τ) ↦[F01.view.set]{fullShare} fc : sProp 𝕄) from Entails.rfl) $$ Hc01
  unfold body
  sl_exec_parts
  ihave HG0 := (kG_open 0 c) $$ HG0
  icases HG0 with ⟨⟨Hsa0, Hra0, #Hsr0, #Hrr0⟩, Hst0, Hrt0, Hrc0⟩
  ihave HG1 := (kG_open 1 c) $$ HG1
  icases HG1 with ⟨⟨Hsa1, Hra1, #Hsr1, #Hrr1⟩, Hst1, Hrt1, Hrc1⟩
  ihave HG2 := (kG_open 2 c) $$ HG2
  icases HG2 with ⟨⟨Hsa2, Hra2, #Hsr2, #Hrr2⟩, Hst2, Hrt2, Hrc2⟩
  ihave HG3 := (kG_open 3 c) $$ HG3
  icases HG3 with ⟨⟨Hsa3, Hra3, #Hsr3, #Hrr3⟩, Hst3, Hrt3, Hrc3⟩
  ihave HG4 := (kG_open 4 c) $$ HG4
  icases HG4 with ⟨⟨Hsa4, Hra4, #Hsr4, #Hrr4⟩, Hst4, Hrt4, Hrc4⟩
  ihave HG5 := (kG_open 5 c) $$ HG5
  icases HG5 with ⟨⟨Hsa5, Hra5, #Hsr5, #Hrr5⟩, Hst5, Hrt5, Hrc5⟩
  ihave HG6 := (kG_open 6 c) $$ HG6
  icases HG6 with ⟨⟨Hsa6, Hra6, #Hsr6, #Hrr6⟩, Hst6, Hrt6, Hrc6⟩
  ihave HG7 := (kG_open 7 c) $$ HG7
  icases HG7 with ⟨⟨Hsa7, Hra7, #Hsr7, #Hrr7⟩, Hst7, Hrt7, Hrc7⟩
  -- the rooms for the second hop are the two halves of slot 3
  ihave Hc30 := (Entails.of_eq (cP_halfC c 3 0 _ (by decide) (by decide) fullShare fc)) $$ Hc30
  icases Hc30 with ⟨Hc3a, Hc3b⟩
  ihave Hc31 := (Entails.of_eq (cP_halfR c 3 1 _ (by decide) (by decide) fullShare fc)) $$ Hc31
  icases Hc31 with ⟨Hr3a, Hr3b⟩
  -- the signal to the left
  iapply (step_signal m κ c _ true (prv c) _ (dev1_eq c _) _ rfl _ rfl 0 W rfl _) $$ [HO Hbp Hc10 Hc11 Hc3a Hr3a]
  · isplitr; · iexact HR
    isplitl [HO]; · iexact HO
    isplitl [Hbp]; · iexact Hbp
    unfold barPay room
    rw [if_pos rfl, nxt_prv]
    isplitl [Hc10]
    · isplitl [Hc10]; · iexists fc; iexact Hc10
      iexact Hrr0
    isplitl [Hc11]
    · isplitl [Hc11]; · iexists fc; iexact Hc11
      iexact Hrr2
    isplitl [Hc3a]
    · isplitl [Hc3a]; · iexists fc; iexact Hc3a
      iexact Hrr4
    · isplitl [Hr3a]; · iexists fc; iexact Hr3a
      iexact Hrr6
  iintro HO
  sl_exec_parts
  -- the signal to the right
  iapply (step_signal m κ c _ false (nxt c) _ (dev2_eq c _) _ rfl _ rfl 1 W rfl _) $$ [HO Hbn Hc20 Hc21 Hc3b Hr3b]
  · isplitr; · iexact HR
    isplitl [HO]; · iexact HO
    isplitl [Hbn]; · iexact Hbn
    unfold barPay room
    rw [if_neg (by decide), prv_nxt]
    isplitl [Hc20]
    · isplitl [Hc20]; · iexists fc; iexact Hc20
      iexact Hrr1
    isplitl [Hc21]
    · isplitl [Hc21]; · iexists fc; iexact Hc21
      iexact Hrr3
    isplitl [Hc3b]
    · isplitl [Hc3b]; · iexists fc; iexact Hc3b
      iexact Hrr5
    · isplitl [Hr3b]; · iexists fc; iexact Hr3b
      iexact Hrr7
  iintro HO
  sl_exec_parts
  -- the barrier
  iapply (step_bar m κ c _ _ rfl _ rfl W _) $$ [HO Hbc Hba]
  · isplitr; · iexact HR
    isplitr; · iexact HL
    isplitl [Hbc]; · iexact Hbc
    isplitl [HO]; · iexact HO
    iexact Hba
  iintro ⟨HO, Hba, Hbt, Hbf⟩
  ihave Hbt := (Entails.of_eq (barPay_true c)) $$ Hbt
  ihave Hbf := (Entails.of_eq (barPay_false c)) $$ Hbf
  icases Hbt with ⟨Hm0, Hm2, Hm4, Hm6⟩
  icases Hbf with ⟨Hm1, Hm3, Hm5, Hm7⟩
  -- the own weights have landed
  have hmw := mayWait0 (F := F) c
  sl_exec_parts
  ihave Hc00 := (land_wq m c fc (runA.sl.dma0 m c) rfl) $$ Hc00
  ihave Hc01 := (land_wo m c fc (runA.sl.dma0_1 m c) rfl) $$ Hc01
  -- a share of the query weights to each neighbour, the rest for the device itself
  ihave Hc00 := (Entails.of_eq (cP_share c F00.view.set fullShare (commF m c))) $$ Hc00
  icases Hc00 with ⟨Hc00a, Hc00⟩
  ihave Hc00 := (Entails.of_eq (cP_share c F00.view.set fullShare.right (commF m c))) $$ Hc00
  icases Hc00 with ⟨Hc00b, Hc00⟩
  ihave HO := (owes_ex c 2 _) $$ HO
  icases HO with ⟨%W1, HO⟩
  iapply (step_send m κ c _ 0 1024 1024 ![0, 0, 0, 0] ![1, 0, 0, 0] S1x1x1024x1024.size rfl inb_S4x2x1024x1024_S1x1x1024x1024_0_0_0_0 inb_S4x2x1024x1024_S1x1x1024x1024_1_0_0_0 squeezes_S1x1x1024x1024_S1024x1024 squeezes_S1x1x1024x1024_S1024x1024 (hp_of 0 c _ _ rfl rfl) rfl rfl rfl
    F00 F10 rfl rfl rfl rfl rfl _ (dev3_eq c (k0_dev3_lt c)) _ _ rfl rfl 2 W1 rfl _) $$ [Hc00a Hm0 HO Hst0 Hrt0]
  · isplitr; · iexact HR
    isplitl [Hc00a]; · iexact Hc00a
    isplitl [Hm0]; · iexact Hm0
    isplitl [HO]; · iexact HO
    isplitl [Hst0]; · iexact Hst0
    isplitr; · iexact Hsr0
    iexact Hrt0
  iintro ⟨Hsc0, HO⟩
  sl_exec_parts
  iapply (step_send m κ c _ 1 1024 1024 ![0, 0, 0, 0] ![2, 0, 0, 0] S1x1x1024x1024.size rfl inb_S4x2x1024x1024_S1x1x1024x1024_0_0_0_0 inb_S4x2x1024x1024_S1x1x1024x1024_2_0_0_0 squeezes_S1x1x1024x1024_S1024x1024 squeezes_S1x1x1024x1024_S1024x1024 (hp_of 1 c _ _ rfl rfl) rfl rfl rfl
    F00 F20 rfl rfl rfl rfl rfl _ (dev4_eq c (k0_dev4_lt c)) _ _ rfl rfl 3 W1 rfl _) $$ [Hc00b Hm1 HO Hst1 Hrt1]
  · isplitr; · iexact HR
    isplitl [Hc00b]; · iexact Hc00b
    isplitl [Hm1]; · iexact Hm1
    isplitl [HO]; · iexact HO
    isplitl [Hst1]; · iexact Hst1
    isplitr; · iexact Hsr1
    iexact Hrt1
  iintro ⟨Hsc1, HO⟩
  ihave Hc00 := (show cP c F00.view.set fullShare.right.right (commF m c) ⊢ (F00.view.loc (c : Thread nD τ) ↦[F00.view.set]{fullShare.right.right} commF m c : sProp 𝕄) from Entails.rfl) $$ Hc00
  ihave Hc01 := (show cP c F01.view.set fullShare (commF m c) ⊢ (F01.view.loc (c : Thread nD τ) ↦[F01.view.set]{fullShare} commF m c : sProp 𝕄) from Entails.rfl) $$ Hc01
  (set_option sl_exec.stopBefore "k0_part17" in sl_exec_parts)
  ihave Hkh := (re_kh c (hdC (V m c main_arg2) c (peer c 0)) ?re) $$ Hkh
  case re => exact kh_all (V m c main_arg2) c (peer c 0) _ _ (kb_all (V m c main_arg2) c (peer c 0) fkb _ (of0 c) (of_inb c (peer c 0) (of0 c) (of0_eq c)) (of0_eq c))
  ihave Hvh := (re_vh c (hdC (V m c main_arg3) c (peer c 0)) ?re) $$ Hvh
  case re => exact vh_all (V m c main_arg3) c (peer c 0) _ _ (vb_all (V m c main_arg3) c (peer c 0) fvb _ (of0 c) (of_inb c (peer c 0) (of0 c) (of0_eq c)) (of0_eq c))
  sl_exec_parts
  sl_seam

end Cert.KProof
end
-- ==== Proof.RunB.lean ====
module

public import proofs.«01_k».proof.Proof.RunA

/-! The run, second stretch: the neighbours' query weights in, their halves sent on, the own output weights out. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def runB (c : Dev nD) (κ : GSem nD τ sig → ℕ) (xb : Buf (Elt F) (xM.view.loc (c : Thread nD τ))) (W : Waits sig Unit)
    (fo : Buf (Elt F) (oM.view.loc (c : Thread nD τ))) (fc : Buf (Elt F) (cM.view.loc (c : Thread nD τ)))
    (fkb : Buf (Elt F) (kbM.view.loc (c : Thread nD τ))) (fvb : Buf (Elt F) (vbM.view.loc (c : Thread nD τ)))
    (fkh : Buf (Elt F) (khM.view.loc (c : Thread nD τ))) (fvh : Buf (Elt F) (vhM.view.loc (c : Thread nD τ)))
    (fct : Buf (Elt F) (ctM.view.loc (c : Thread nD τ))) (R : sProp 𝕄)
    (_plan20 : Transfers.BatchOf (c : Thread nD τ) (sd 20) 16 (windows := true))
    (_plan21 : Transfers.BatchOf (c : Thread nD τ) (sd 21) 16 (windows := true))
    (_plan22 : Transfers.BatchOf (c : Thread nD τ) (sd 22) 8 (windows := true))
    (_plan23 : Transfers.BatchOf (c : Thread nD τ) (sd 23) 8 (windows := true)) (K : PUnit → sProp 𝕄) :
    Σ' (G : Prop), G → (runA m c κ xb W fo fc fkb fvb fkh fvh fct R _plan20 _plan21 _plan22 _plan23 K).1 := by
  sl_stretch
  sl_resume
  have hmw := mayWait0 (F := F) c
  ihave HO := (owes_ex c 4 _) $$ HO
  icases HO with ⟨%Wr0, HO⟩
  iapply (step_recv m κ c _ 0 _ rfl 4 (by decide) Wr0 rfl _) $$ [Hrc0 HO Hra0]
  · isplitr; · iexact HR
    isplitr; · iexact HL
    isplitl [Hrc0]; · iexact Hrc0
    isplitl [HO]; · iexact HO
    iexact Hra0
  iintro ⟨HO, Hra0, Hc10⟩
  ihave Hc10 := (show recvPay m 0 c ⊢ cP c F10.view.set fullShare (commF m c) from Entails.rfl) $$ Hc10
  ihave Hc10 := (Entails.of_eq (cP_share c F10.view.set fullShare (commF m c))) $$ Hc10
  icases Hc10 with ⟨Hc10l, Hc10⟩
  ihave Hc10l := (Entails.of_eq (cP_halfC c 1 0 _ (by decide) (by decide) fullShare.left (commF m c))) $$ Hc10l
  icases Hc10l with ⟨Hc10a, Hc10b⟩
  ihave Hc10 := (show cP c F10.view.set fullShare.right (commF m c) ⊢ (F10.view.loc (c : Thread nD τ) ↦[F10.view.set]{fullShare.right} commF m c : sProp 𝕄) from Entails.rfl) $$ Hc10
  ihave Hc01 := (show (F01.view.loc (c : Thread nD τ) ↦[F01.view.set]{fullShare} commF m c : sProp 𝕄) ⊢ cP c F01.view.set fullShare (commF m c) from Entails.rfl) $$ Hc01
  ihave Hc01 := (Entails.of_eq (cP_share c F01.view.set fullShare (commF m c))) $$ Hc01
  icases Hc01 with ⟨Hc01a, Hc01⟩
  ihave Hc01 := (Entails.of_eq (cP_share c F01.view.set fullShare.right (commF m c))) $$ Hc01
  icases Hc01 with ⟨Hc01b, Hc01⟩
  ihave Hc01 := (show cP c F01.view.set fullShare.right.right (commF m c) ⊢ (F01.view.loc (c : Thread nD τ) ↦[F01.view.set]{fullShare.right.right} commF m c : sProp 𝕄) from Entails.rfl) $$ Hc01
  sl_exec_parts
  ihave HO := (owes_ex c 4 _) $$ HO
  icases HO with ⟨%W4, HO⟩
  iapply (step_send m κ c _ 4 1024 512 ![1, 0, 0, 0] ![3, 0, 0, 0] S1x1x1024x512.size rfl inb_S4x2x1024x1024_S1x1x1024x512_1_0_0_0 inb_S4x2x1024x1024_S1x1x1024x512_3_0_0_0
    squeezes_S1x1x1024x512_S1024x512 squeezes_S1x1x1024x512_S1024x512 (hp_of 4 c _ _ rfl rfl) rfl rfl rfl
    C1a C3a rfl rfl rfl rfl rfl _ (dev5_eq c (k0_dev5_lt c)) _ _ rfl rfl 4 W4 rfl _) $$ [Hc10a Hm4 HO Hst4 Hrt4]
  · isplitr; · iexact HR
    isplitl [Hc10a]; · iexact Hc10a
    isplitl [Hm4]; · iexact Hm4
    isplitl [HO]; · iexact HO
    isplitl [Hst4]; · iexact Hst4
    isplitr; · iexact Hsr4
    iexact Hrt4
  iintro ⟨Hsc4, HO⟩
  sl_exec_parts
  ihave HO := (owes_ex c 5 _) $$ HO
  icases HO with ⟨%W5, HO⟩
  iapply (step_send m κ c _ 2 1024 1024 ![0, 1, 0, 0] ![1, 1, 0, 0] S1x1x1024x1024.size rfl inb_S4x2x1024x1024_S1x1x1024x1024_0_1_0_0 inb_S4x2x1024x1024_S1x1x1024x1024_1_1_0_0
    squeezes_S1x1x1024x1024_S1024x1024 squeezes_S1x1x1024x1024_S1024x1024 (hp_of 2 c _ _ rfl rfl) rfl rfl rfl
    F01 F11 rfl rfl rfl rfl rfl _ (dev6_eq c (k0_dev6_lt c)) _ _ rfl rfl 5 W5 rfl _) $$ [Hc01a Hm2 HO Hst2 Hrt2]
  · isplitr; · iexact HR
    isplitl [Hc01a]; · iexact Hc01a
    isplitl [Hm2]; · iexact Hm2
    isplitl [HO]; · iexact HO
    isplitl [Hst2]; · iexact Hst2
    isplitr; · iexact Hsr2
    iexact Hrt2
  iintro ⟨Hsc2, HO⟩
  sl_exec_parts
  ihave HO := (owes_ex c 6 _) $$ HO
  icases HO with ⟨%Wr1, HO⟩
  iapply (step_recv m κ c _ 1 _ rfl 6 (by decide) Wr1 rfl _) $$ [Hrc1 HO Hra1]
  · isplitr; · iexact HR
    isplitr; · iexact HL
    isplitl [Hrc1]; · iexact Hrc1
    isplitl [HO]; · iexact HO
    iexact Hra1
  iintro ⟨HO, Hra1, Hc20⟩
  ihave Hc20 := (show recvPay m 1 c ⊢ cP c F20.view.set fullShare (commF m c) from Entails.rfl) $$ Hc20
  ihave Hc20 := (Entails.of_eq (cP_share c F20.view.set fullShare (commF m c))) $$ Hc20
  icases Hc20 with ⟨Hc20l, Hc20⟩
  ihave Hc20l := (Entails.of_eq (cP_halfC c 2 0 _ (by decide) (by decide) fullShare.left (commF m c))) $$ Hc20l
  icases Hc20l with ⟨Hc20a, Hc20b⟩
  ihave Hc20 := (show cP c F20.view.set fullShare.right (commF m c) ⊢ (F20.view.loc (c : Thread nD τ) ↦[F20.view.set]{fullShare.right} commF m c : sProp 𝕄) from Entails.rfl) $$ Hc20
  sl_exec_parts
  ihave HO := (owes_ex c 6 _) $$ HO
  icases HO with ⟨%W6, HO⟩
  iapply (step_send m κ c _ 5 1024 512 ![2, 0, 0, 512] ![3, 0, 0, 512] S1x1x1024x512.size rfl inb_S4x2x1024x1024_S1x1x1024x512_2_0_0_512 inb_S4x2x1024x1024_S1x1x1024x512_3_0_0_512
    squeezes_S1x1x1024x512_S1024x512 squeezes_S1x1x1024x512_S1024x512 (hp_of 5 c _ _ rfl rfl) rfl rfl rfl
    C2b C3b rfl rfl rfl rfl rfl _ (dev7_eq c (k0_dev7_lt c)) _ _ rfl rfl 6 W6 rfl _) $$ [Hc20b Hm5 HO Hst5 Hrt5]
  · isplitr; · iexact HR
    isplitl [Hc20b]; · iexact Hc20b
    isplitl [Hm5]; · iexact Hm5
    isplitl [HO]; · iexact HO
    isplitl [Hst5]; · iexact Hst5
    isplitr; · iexact Hsr5
    iexact Hrt5
  iintro ⟨Hsc5, HO⟩
  sl_exec_parts
  ihave HO := (owes_ex c 7 _) $$ HO
  icases HO with ⟨%W7, HO⟩
  iapply (step_send m κ c _ 3 1024 1024 ![0, 1, 0, 0] ![2, 1, 0, 0] S1x1x1024x1024.size rfl inb_S4x2x1024x1024_S1x1x1024x1024_0_1_0_0 inb_S4x2x1024x1024_S1x1x1024x1024_2_1_0_0
    squeezes_S1x1x1024x1024_S1024x1024 squeezes_S1x1x1024x1024_S1024x1024 (hp_of 3 c _ _ rfl rfl) rfl rfl rfl
    F01 F21 rfl rfl rfl rfl rfl _ (dev8_eq c (k0_dev8_lt c)) _ _ rfl rfl 7 W7 rfl _) $$ [Hc01b Hm3 HO Hst3 Hrt3]
  · isplitr; · iexact HR
    isplitl [Hc01b]; · iexact Hc01b
    isplitl [Hm3]; · iexact Hm3
    isplitl [HO]; · iexact HO
    isplitl [Hst3]; · iexact Hst3
    isplitr; · iexact Hsr3
    iexact Hrt3
  iintro ⟨Hsc3, HO⟩
  sl_seam

end Cert.KProof
end
-- ==== Proof.RunC.lean ====
module

public import proofs.«01_k».proof.Proof.RunB

/-! The run, third stretch: the two neighbours' heads. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def runC (c : Dev nD) (κ : GSem nD τ sig → ℕ) (xb : Buf (Elt F) (xM.view.loc (c : Thread nD τ))) (W : Waits sig Unit)
    (fo : Buf (Elt F) (oM.view.loc (c : Thread nD τ))) (fc : Buf (Elt F) (cM.view.loc (c : Thread nD τ)))
    (fkb : Buf (Elt F) (kbM.view.loc (c : Thread nD τ))) (fvb : Buf (Elt F) (vbM.view.loc (c : Thread nD τ)))
    (fkh : Buf (Elt F) (khM.view.loc (c : Thread nD τ))) (fvh : Buf (Elt F) (vhM.view.loc (c : Thread nD τ)))
    (fct : Buf (Elt F) (ctM.view.loc (c : Thread nD τ))) (R : sProp 𝕄)
    (_plan20 : Transfers.BatchOf (c : Thread nD τ) (sd 20) 16 (windows := true))
    (_plan21 : Transfers.BatchOf (c : Thread nD τ) (sd 21) 16 (windows := true))
    (_plan22 : Transfers.BatchOf (c : Thread nD τ) (sd 22) 8 (windows := true))
    (_plan23 : Transfers.BatchOf (c : Thread nD τ) (sd 23) 8 (windows := true)) (K : PUnit → sProp 𝕄) :
    Σ' (G : Prop), G → (runB m c κ xb W fo fc fkb fvb fkh fvh fct R _plan20 _plan21 _plan22 _plan23 K).1 := by
  sl_stretch
  sl_resume
  have hmw := mayWait0 (F := F) c
  (set_option sl_exec.stopBefore "k0_part38" in sl_exec_parts)
  ihave Hkh := (re_kh c (hdC (V m c main_arg2) c (peer c 1)) ?re) $$ Hkh
  case re => exact kh_all (V m c main_arg2) c (peer c 1) _ _ (kb_all (V m c main_arg2) c (peer c 1) fkb _ (of1 c) (of_inb c (peer c 1) (of1 c) (of1_eq c)) (of1_eq c))
  ihave Hvh := (re_vh c (hdC (V m c main_arg3) c (peer c 1)) ?re) $$ Hvh
  case re => exact vh_all (V m c main_arg3) c (peer c 1) _ _ (vb_all (V m c main_arg3) c (peer c 1) fvb _ (of1 c) (of_inb c (peer c 1) (of1 c) (of1_eq c)) (of1_eq c))
  (set_option sl_exec.stopBefore "k0_part54" in sl_exec_parts)
  ihave Hkh := (re_kh c (hdC (V m c main_arg2) c (peer c 2)) ?re) $$ Hkh
  case re => exact kh_all (V m c main_arg2) c (peer c 2) _ _ (kb_all (V m c main_arg2) c (peer c 2) fkb _ (of2 c 1#32) (of_inb c (peer c 2) (of2 c 1#32) (of2_eq c)) (of2_eq c))
  ihave Hvh := (re_vh c (hdC (V m c main_arg3) c (peer c 2)) ?re) $$ Hvh
  case re => exact vh_all (V m c main_arg3) c (peer c 2) _ _ (vb_all (V m c main_arg3) c (peer c 2) fvb _ (of2 c 1#32) (of_inb c (peer c 2) (of2 c 1#32) (of2_eq c)) (of2_eq c))
  sl_exec_parts
  sl_seam

end Cert.KProof
end
-- ==== Proof.RunD.lean ====
module

public import proofs.«01_k».proof.Proof.RunC

/-! The run, fourth stretch: the opposite device's heads. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def runD (c : Dev nD) (κ : GSem nD τ sig → ℕ) (xb : Buf (Elt F) (xM.view.loc (c : Thread nD τ))) (W : Waits sig Unit)
    (fo : Buf (Elt F) (oM.view.loc (c : Thread nD τ))) (fc : Buf (Elt F) (cM.view.loc (c : Thread nD τ)))
    (fkb : Buf (Elt F) (kbM.view.loc (c : Thread nD τ))) (fvb : Buf (Elt F) (vbM.view.loc (c : Thread nD τ)))
    (fkh : Buf (Elt F) (khM.view.loc (c : Thread nD τ))) (fvh : Buf (Elt F) (vhM.view.loc (c : Thread nD τ)))
    (fct : Buf (Elt F) (ctM.view.loc (c : Thread nD τ))) (R : sProp 𝕄)
    (_plan20 : Transfers.BatchOf (c : Thread nD τ) (sd 20) 16 (windows := true))
    (_plan21 : Transfers.BatchOf (c : Thread nD τ) (sd 21) 16 (windows := true))
    (_plan22 : Transfers.BatchOf (c : Thread nD τ) (sd 22) 8 (windows := true))
    (_plan23 : Transfers.BatchOf (c : Thread nD τ) (sd 23) 8 (windows := true)) (K : PUnit → sProp 𝕄) :
    Σ' (G : Prop), G → (runC m c κ xb W fo fc fkb fvb fkh fvh fct R _plan20 _plan21 _plan22 _plan23 K).1 := by
  sl_stretch
  sl_resume
  have hmw := mayWait0 (F := F) c
  ihave HO := (owes_ex c 8 _) $$ HO
  icases HO with ⟨%Wr4, HO⟩
  iapply (step_recv m κ c _ 4 _ rfl 8 (by decide) Wr4 rfl _) $$ [Hrc4 HO Hra4]
  · isplitr; · iexact HR
    isplitr; · iexact HL
    isplitl [Hrc4]; · iexact Hrc4
    isplitl [HO]; · iexact HO
    iexact Hra4
  iintro ⟨HO, Hra4, Hc3a⟩
  ihave Hc3a := (show recvPay m 4 c ⊢ cP c C3a.view.set fullShare (commF m c) from Entails.rfl) $$ Hc3a
  sl_exec_parts
  ihave HO := (owes_ex c 8 _) $$ HO
  icases HO with ⟨%Wr5, HO⟩
  iapply (step_recv m κ c _ 5 _ rfl 8 (by decide) Wr5 rfl _) $$ [Hrc5 HO Hra5]
  · isplitr; · iexact HR
    isplitr; · iexact HL
    isplitl [Hrc5]; · iexact Hrc5
    isplitl [HO]; · iexact HO
    iexact Hra5
  iintro ⟨HO, Hra5, Hc3b⟩
  ihave Hc3b := (show recvPay m 5 c ⊢ cP c C3b.view.set fullShare (commF m c) from Entails.rfl) $$ Hc3b
  ihave Hc30 := (Entails.of_eq (cP_halfC c 3 0 (by decide) (by decide) (by decide) fullShare (commF m c)).symm) $$ [Hc3a Hc3b]
  · isplitl [Hc3a]; · iexact Hc3a
    iexact Hc3b
  ihave Hc30 := (show cP c F30.view.set fullShare (commF m c) ⊢ (F30.view.loc (c : Thread nD τ) ↦[F30.view.set]{fullShare} commF m c : sProp 𝕄) from Entails.rfl) $$ Hc30
  (set_option sl_exec.stopBefore "k0_part70" in sl_exec_parts)
  (set_option sl_exec.maxSteps 41 in sl_exec)
  ihave Hkh := (re_kh c (hdC (V m c main_arg2) c (peer c 3)) ?re) $$ Hkh
  case re => exact kh_all (V m c main_arg2) c (peer c 3) _ _ (kb_all (V m c main_arg2) c (peer c 3) fkb _ (of2 c 2#32) (of_inb c (peer c 3) (of2 c 2#32) (of3_eq c)) (of3_eq c))
  ihave Hvh := (re_vh c (hdC (V m c main_arg3) c (peer c 3)) ?re) $$ Hvh
  case re => exact vh_all (V m c main_arg3) c (peer c 3) _ _ (vb_all (V m c main_arg3) c (peer c 3) fvb _ (of2 c 2#32) (of_inb c (peer c 3) (of2 c 2#32) (of3_eq c)) (of3_eq c))
  sl_exec_parts
  sl_seam

end Cert.KProof
end
-- ==== Proof.RunE.lean ====
module

public import proofs.«01_k».proof.Proof.RunD

/-! The run, fifth stretch: the neighbours' output weights in, their halves sent on, two terms of the output projection added. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def runE (c : Dev nD) (κ : GSem nD τ sig → ℕ) (xb : Buf (Elt F) (xM.view.loc (c : Thread nD τ))) (W : Waits sig Unit)
    (fo : Buf (Elt F) (oM.view.loc (c : Thread nD τ))) (fc : Buf (Elt F) (cM.view.loc (c : Thread nD τ)))
    (fkb : Buf (Elt F) (kbM.view.loc (c : Thread nD τ))) (fvb : Buf (Elt F) (vbM.view.loc (c : Thread nD τ)))
    (fkh : Buf (Elt F) (khM.view.loc (c : Thread nD τ))) (fvh : Buf (Elt F) (vhM.view.loc (c : Thread nD τ)))
    (fct : Buf (Elt F) (ctM.view.loc (c : Thread nD τ))) (R : sProp 𝕄)
    (_plan20 : Transfers.BatchOf (c : Thread nD τ) (sd 20) 16 (windows := true))
    (_plan21 : Transfers.BatchOf (c : Thread nD τ) (sd 21) 16 (windows := true))
    (_plan22 : Transfers.BatchOf (c : Thread nD τ) (sd 22) 8 (windows := true))
    (_plan23 : Transfers.BatchOf (c : Thread nD τ) (sd 23) 8 (windows := true)) (K : PUnit → sProp 𝕄) :
    Σ' (G : Prop), G → (runD m c κ xb W fo fc fkb fvb fkh fvh fct R _plan20 _plan21 _plan22 _plan23 K).1 := by
  sl_stretch
  sl_resume
  have hmw := mayWait0 (F := F) c
  ihave HO := (owes_ex c 8 _) $$ HO
  icases HO with ⟨%Wr2, HO⟩
  iapply (step_recv m κ c _ 2 _ rfl 8 (by decide) Wr2 rfl _) $$ [Hrc2 HO Hra2]
  · isplitr; · iexact HR
    isplitr; · iexact HL
    isplitl [Hrc2]; · iexact Hrc2
    isplitl [HO]; · iexact HO
    iexact Hra2
  iintro ⟨HO, Hra2, Hc11⟩
  ihave Hc11 := (show recvPay m 2 c ⊢ cP c F11.view.set fullShare (commF m c) from Entails.rfl) $$ Hc11
  ihave Hc11 := (Entails.of_eq (cP_share c F11.view.set fullShare (commF m c))) $$ Hc11
  icases Hc11 with ⟨Hc11l, Hc11⟩
  ihave Hc11l := (Entails.of_eq (cP_halfR c 1 1 _ (by decide) (by decide) fullShare.left (commF m c))) $$ Hc11l
  icases Hc11l with ⟨Hc11a, Hc11b⟩
  ihave Hc11 := (show cP c F11.view.set fullShare.right (commF m c) ⊢ (F11.view.loc (c : Thread nD τ) ↦[F11.view.set]{fullShare.right} commF m c : sProp 𝕄) from Entails.rfl) $$ Hc11
  sl_exec_parts
  ihave HO := (owes_ex c 8 _) $$ HO
  icases HO with ⟨%W8, HO⟩
  iapply (step_send m κ c _ 6 512 1024 ![1, 1, 0, 0] ![3, 1, 0, 0] S1x1x512x1024.size rfl inb_S4x2x1024x1024_S1x1x512x1024_1_1_0_0 inb_S4x2x1024x1024_S1x1x512x1024_3_1_0_0
    squeezes_S1x1x512x1024_S512x1024 squeezes_S1x1x512x1024_S512x1024 (hp_of 6 c _ _ rfl rfl) rfl rfl rfl
    R1a R3a rfl rfl rfl rfl rfl _ (dev9_eq c (k0_dev9_lt c)) _ _ rfl rfl 8 W8 rfl _) $$ [Hc11a Hm6 HO Hst6 Hrt6]
  · isplitr; · iexact HR
    isplitl [Hc11a]; · iexact Hc11a
    isplitl [Hm6]; · iexact Hm6
    isplitl [HO]; · iexact HO
    isplitl [Hst6]; · iexact Hst6
    isplitr; · iexact Hsr6
    iexact Hrt6
  iintro ⟨Hsc6, HO⟩
  sl_exec_parts
  ihave HO := (owes_ex c 9 _) $$ HO
  icases HO with ⟨%Wr3, HO⟩
  iapply (step_recv m κ c _ 3 _ rfl 9 (by decide) Wr3 rfl _) $$ [Hrc3 HO Hra3]
  · isplitr; · iexact HR
    isplitr; · iexact HL
    isplitl [Hrc3]; · iexact Hrc3
    isplitl [HO]; · iexact HO
    iexact Hra3
  iintro ⟨HO, Hra3, Hc21⟩
  ihave Hc21 := (show recvPay m 3 c ⊢ cP c F21.view.set fullShare (commF m c) from Entails.rfl) $$ Hc21
  ihave Hc21 := (Entails.of_eq (cP_share c F21.view.set fullShare (commF m c))) $$ Hc21
  icases Hc21 with ⟨Hc21l, Hc21⟩
  ihave Hc21l := (Entails.of_eq (cP_halfR c 2 1 _ (by decide) (by decide) fullShare.left (commF m c))) $$ Hc21l
  icases Hc21l with ⟨Hc21a, Hc21b⟩
  ihave Hc21 := (show cP c F21.view.set fullShare.right (commF m c) ⊢ (F21.view.loc (c : Thread nD τ) ↦[F21.view.set]{fullShare.right} commF m c : sProp 𝕄) from Entails.rfl) $$ Hc21
  sl_exec_parts
  ihave HO := (owes_ex c 9 _) $$ HO
  icases HO with ⟨%W9, HO⟩
  iapply (step_send m κ c _ 7 512 1024 ![2, 1, 512, 0] ![3, 1, 512, 0] S1x1x512x1024.size rfl inb_S4x2x1024x1024_S1x1x512x1024_2_1_512_0 inb_S4x2x1024x1024_S1x1x512x1024_3_1_512_0
    squeezes_S1x1x512x1024_S512x1024 squeezes_S1x1x512x1024_S512x1024 (hp_of 7 c _ _ rfl rfl) rfl rfl rfl
    R2b R3b rfl rfl rfl rfl rfl _ (dev10_eq c (k0_dev10_lt c)) _ _ rfl rfl 9 W9 rfl _) $$ [Hc21b Hm7 HO Hst7 Hrt7]
  · isplitr; · iexact HR
    isplitl [Hc21b]; · iexact Hc21b
    isplitl [Hm7]; · iexact Hm7
    isplitl [HO]; · iexact HO
    isplitl [Hst7]; · iexact Hst7
    isplitr; · iexact Hsr7
    iexact Hrt7
  iintro ⟨Hsc7, HO⟩
  sl_exec_parts
  sl_seam

end Cert.KProof
end
-- ==== Proof.RunF.lean ====
module

public import proofs.«01_k».proof.Proof.RunE

/-! The run, sixth stretch: the last term of the output projection, and every copy but one sent. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def runF (c : Dev nD) (κ : GSem nD τ sig → ℕ) (xb : Buf (Elt F) (xM.view.loc (c : Thread nD τ))) (W : Waits sig Unit)
    (fo : Buf (Elt F) (oM.view.loc (c : Thread nD τ))) (fc : Buf (Elt F) (cM.view.loc (c : Thread nD τ)))
    (fkb : Buf (Elt F) (kbM.view.loc (c : Thread nD τ))) (fvb : Buf (Elt F) (vbM.view.loc (c : Thread nD τ)))
    (fkh : Buf (Elt F) (khM.view.loc (c : Thread nD τ))) (fvh : Buf (Elt F) (vhM.view.loc (c : Thread nD τ)))
    (fct : Buf (Elt F) (ctM.view.loc (c : Thread nD τ))) (R : sProp 𝕄)
    (_plan20 : Transfers.BatchOf (c : Thread nD τ) (sd 20) 16 (windows := true))
    (_plan21 : Transfers.BatchOf (c : Thread nD τ) (sd 21) 16 (windows := true))
    (_plan22 : Transfers.BatchOf (c : Thread nD τ) (sd 22) 8 (windows := true))
    (_plan23 : Transfers.BatchOf (c : Thread nD τ) (sd 23) 8 (windows := true)) (K : PUnit → sProp 𝕄) :
    Σ' (G : Prop), G → (runE m c κ xb W fo fc fkb fvb fkh fvh fct R _plan20 _plan21 _plan22 _plan23 K).1 := by
  sl_stretch
  sl_resume
  have hmw := mayWait0 (F := F) c
  ihave HO := (owes_ex c 10 _) $$ HO
  icases HO with ⟨%Wr6, HO⟩
  iapply (step_recv m κ c _ 6 _ rfl 10 (by decide) Wr6 rfl _) $$ [Hrc6 HO Hra6]
  · isplitr; · iexact HR
    isplitr; · iexact HL
    isplitl [Hrc6]; · iexact Hrc6
    isplitl [HO]; · iexact HO
    iexact Hra6
  iintro ⟨HO, Hra6, Hr3a⟩
  ihave Hr3a := (show recvPay m 6 c ⊢ cP c R3a.view.set fullShare (commF m c) from Entails.rfl) $$ Hr3a
  sl_exec_parts
  ihave HO := (owes_ex c 10 _) $$ HO
  icases HO with ⟨%Wr7, HO⟩
  iapply (step_recv m κ c _ 7 _ rfl 10 (by decide) Wr7 rfl _) $$ [Hrc7 HO Hra7]
  · isplitr; · iexact HR
    isplitr; · iexact HL
    isplitl [Hrc7]; · iexact Hrc7
    isplitl [HO]; · iexact HO
    iexact Hra7
  iintro ⟨HO, Hra7, Hr3b⟩
  ihave Hr3b := (show recvPay m 7 c ⊢ cP c R3b.view.set fullShare (commF m c) from Entails.rfl) $$ Hr3b
  ihave Hc31 := (Entails.of_eq (cP_halfR c 3 1 (by decide) (by decide) (by decide) fullShare (commF m c)).symm) $$ [Hr3a Hr3b]
  · isplitl [Hr3a]; · iexact Hr3a
    iexact Hr3b
  ihave Hc31 := (show cP c F31.view.set fullShare (commF m c) ⊢ (F31.view.loc (c : Thread nD τ) ↦[F31.view.set]{fullShare} commF m c : sProp 𝕄) from Entails.rfl) $$ Hc31
  sl_exec_parts
  ihave HO := (owes_ex c 10 _) $$ HO
  icases HO with ⟨%Ws0, HO⟩
  iapply (step_sent m κ c _ 0 _ rfl Ws0 rfl _) $$ [Hsc0 HO Hsa0]
  · isplitr; · iexact HR
    isplitl [Hsc0]; · iexact Hsc0
    isplitl [HO]; · iexact HO
    iexact Hsa0
  iintro ⟨HO, Hsa0, Hd0⟩
  ihave Hd0 := (show sendPay m 0 c ⊢ cP c F00.view.set fullShare.left (commF m c) from Entails.rfl) $$ Hd0
  sl_exec_parts
  ihave HO := (owes_ex c 10 _) $$ HO
  icases HO with ⟨%Ws1, HO⟩
  iapply (step_sent m κ c _ 1 _ rfl Ws1 rfl _) $$ [Hsc1 HO Hsa1]
  · isplitr; · iexact HR
    isplitl [Hsc1]; · iexact Hsc1
    isplitl [HO]; · iexact HO
    iexact Hsa1
  iintro ⟨HO, Hsa1, Hd1⟩
  ihave Hd1 := (show sendPay m 1 c ⊢ cP c F00.view.set fullShare.right.left (commF m c) from Entails.rfl) $$ Hd1
  sl_exec_parts
  ihave HO := (owes_ex c 10 _) $$ HO
  icases HO with ⟨%Ws2, HO⟩
  iapply (step_sent m κ c _ 2 _ rfl Ws2 rfl _) $$ [Hsc2 HO Hsa2]
  · isplitr; · iexact HR
    isplitl [Hsc2]; · iexact Hsc2
    isplitl [HO]; · iexact HO
    iexact Hsa2
  iintro ⟨HO, Hsa2, Hd2⟩
  ihave Hd2 := (show sendPay m 2 c ⊢ cP c F01.view.set fullShare.left (commF m c) from Entails.rfl) $$ Hd2
  sl_exec_parts
  ihave HO := (owes_ex c 10 _) $$ HO
  icases HO with ⟨%Ws3, HO⟩
  iapply (step_sent m κ c _ 3 _ rfl Ws3 rfl _) $$ [Hsc3 HO Hsa3]
  · isplitr; · iexact HR
    isplitl [Hsc3]; · iexact Hsc3
    isplitl [HO]; · iexact HO
    iexact Hsa3
  iintro ⟨HO, Hsa3, Hd3⟩
  ihave Hd3 := (show sendPay m 3 c ⊢ cP c F01.view.set fullShare.right.left (commF m c) from Entails.rfl) $$ Hd3
  sl_exec_parts
  ihave HO := (owes_ex c 10 _) $$ HO
  icases HO with ⟨%Ws4, HO⟩
  iapply (step_sent m κ c _ 4 _ rfl Ws4 rfl _) $$ [Hsc4 HO Hsa4]
  · isplitr; · iexact HR
    isplitl [Hsc4]; · iexact Hsc4
    isplitl [HO]; · iexact HO
    iexact Hsa4
  iintro ⟨HO, Hsa4, Hd4⟩
  ihave Hd4 := (show sendPay m 4 c ⊢ cP c C1a.view.set fullShare.left (commF m c) from Entails.rfl) $$ Hd4
  sl_exec_parts
  ihave HO := (owes_ex c 10 _) $$ HO
  icases HO with ⟨%Ws5, HO⟩
  iapply (step_sent m κ c _ 5 _ rfl Ws5 rfl _) $$ [Hsc5 HO Hsa5]
  · isplitr; · iexact HR
    isplitl [Hsc5]; · iexact Hsc5
    isplitl [HO]; · iexact HO
    iexact Hsa5
  iintro ⟨HO, Hsa5, Hd5⟩
  ihave Hd5 := (show sendPay m 5 c ⊢ cP c C2b.view.set fullShare.left (commF m c) from Entails.rfl) $$ Hd5
  sl_exec_parts
  ihave HO := (owes_ex c 10 _) $$ HO
  icases HO with ⟨%Ws6, HO⟩
  iapply (step_sent m κ c _ 6 _ rfl Ws6 rfl _) $$ [Hsc6 HO Hsa6]
  · isplitr; · iexact HR
    isplitl [Hsc6]; · iexact Hsc6
    isplitl [HO]; · iexact HO
    iexact Hsa6
  iintro ⟨HO, Hsa6, Hd6⟩
  ihave Hd6 := (show sendPay m 6 c ⊢ cP c R1a.view.set fullShare.left (commF m c) from Entails.rfl) $$ Hd6
  sl_exec_parts
  sl_seam

end Cert.KProof
end
-- ==== Proof.Ctx.lean ====
module

public import proofs.«01_k».proof.Proof.RunF

/-! The contexts and the output in closed form, and that the pieces the run writes to them are those. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The device's rows of `x` in block order. -/
def xpR (xb : S1x1024x1024.Idx → Elt F .bf16) : FVec F S1024x1024 .bf16 :=
  k0_pay7 (k0_pay1 (View.readAt (Elt F) xM.view (Rect.unit (s := S1x1024x1024) ![0, 0, 0] S1x64x1024.size (by decide)).toLoadRect xb))
    (k0_pay2 (View.readAt (Elt F) xM.view (Rect.unit (s := S1x1024x1024) ![0, 256, 0] S1x64x1024.size (by decide)).toLoadRect xb))
    (k0_pay3 (View.readAt (Elt F) xM.view (Rect.unit (s := S1x1024x1024) ![0, 512, 0] S1x64x1024.size (by decide)).toLoadRect xb))
    (k0_pay4 (View.readAt (Elt F) xM.view (Rect.unit (s := S1x1024x1024) ![0, 768, 0] S1x64x1024.size (by decide)).toLoadRect xb))
    (k0_pay5 (View.readAt (Elt F) xM.view (Rect.unit (s := S1x1024x1024) ![0, 64, 0] S1x64x1024.size (by decide)).toLoadRect xb))
    (k0_pay6 (View.readAt (Elt F) xM.view (Rect.unit (s := S1x1024x1024) ![0, 320, 0] S1x64x1024.size (by decide)).toLoadRect xb))
    (View.readAt (Elt F) xM.view (Rect.unit (s := S1x1024x1024) ![0, 576, 0] S1x64x1024.size (by decide)).toLoadRect xb)
    (View.readAt (Elt F) xM.view (Rect.unit (s := S1x1024x1024) ![0, 832, 0] S1x64x1024.size (by decide)).toLoadRect xb)
    (View.readAt (Elt F) xM.view (Rect.unit (s := S1x1024x1024) ![0, 128, 0] S1x64x1024.size (by decide)).toLoadRect xb)
    (View.readAt (Elt F) xM.view (Rect.unit (s := S1x1024x1024) ![0, 384, 0] S1x64x1024.size (by decide)).toLoadRect xb)
    (View.readAt (Elt F) xM.view (Rect.unit (s := S1x1024x1024) ![0, 640, 0] S1x64x1024.size (by decide)).toLoadRect xb)
    (View.readAt (Elt F) xM.view (Rect.unit (s := S1x1024x1024) ![0, 896, 0] S1x64x1024.size (by decide)).toLoadRect xb)
    (View.readAt (Elt F) xM.view (Rect.unit (s := S1x1024x1024) ![0, 192, 0] S1x64x1024.size (by decide)).toLoadRect xb)
    (View.readAt (Elt F) xM.view (Rect.unit (s := S1x1024x1024) ![0, 448, 0] S1x64x1024.size (by decide)).toLoadRect xb)
    (View.readAt (Elt F) xM.view (Rect.unit (s := S1x1024x1024) ![0, 704, 0] S1x64x1024.size (by decide)).toLoadRect xb)
    (View.readAt (Elt F) xM.view (Rect.unit (s := S1x1024x1024) ![0, 960, 0] S1x64x1024.size (by decide)).toLoadRect xb)

variable (m : (ℓ : Loc nD τ sig) → Buf (Elt F) ℓ) (c : Dev nD) (xb : S1x1024x1024.Idx → Elt F .bf16)

/-- What slot `s` of the exchanged weights reads as: the query weights (`t = 0`), the output weights (`t = 1`). -/
def wsl (s : Fin 4) (t : Fin 2) : S1x1x1024x1024.Idx → Elt F .bf16 :=
  View.readAt (Elt F) cM.view (Rect.unit (s := S4x2x1024x1024) ![s.val, t.val, 0, 0] S1x1x1024x1024.size (by revert s t; decide)).toLoadRect (commF m c)

/-- The scaled queries of slot `s`'s heads. -/
def qR (s : Fin 4) : FVec F S1024x1024 .bf16 := k0_pay42 (xpR xb) (k0_pay41 (wsl m c s 0))

/-- Head `h` of slot `s`. -/
def hdP (s : Fin 4) (h : Fin 8) : FVec F S1x1024x128 .bf16 :=
  k0_pay89 (shapeCast S4x256x128 (extractStridedSlice S1024x128 ![0, 128 * h.val] (qR m c xb s) (by revert h; decide)) shapeCasts_S1024x128_S4x256x128)
    (View.readAt (Elt F) khM.view (Rect.unit (s := S8x1024x128) ![h.val, 0, 0] S1x1024x128.size (by revert h; decide)).toLoadRect (hdC (V m c main_arg2) c (peer c s)))
    (View.readAt (Elt F) vhM.view (Rect.unit (s := S8x1024x128) ![h.val, 0, 0] S1x1024x128.size (by revert h; decide)).toLoadRect (hdC (V m c main_arg3) c (peer c s)))

/-- All contexts: slot, row in block order, column. -/
def ctC : S4x1024x1024.Idx → Elt F .bf16 := fun i =>
  hdP m c xb (i 0) ⟨(i 2).val / 128, Nat.div_lt_of_lt_mul (show (i 2).val < 128 * 8 from (i 2).isLt)⟩
    (ix3 (⟨0, Nat.one_pos⟩ : Fin 1) (i 1) (⟨(i 2).val % 128, Nat.mod_lt _ (by decide)⟩ : Fin 128))

/-- Slot `s`'s contexts, as loaded. -/
def ctS (s : Fin 4) : S1x1024x1024.Idx → Elt F .bf16 :=
  View.readAt (Elt F) ctM.view (Rect.unit (s := S4x1024x1024) ![s.val, 0, 0] S1x1024x1024.size (by revert s; decide)).toLoadRect (ctC m c xb)

/-- Slot `s`'s term of the output, rows in block order. -/
def ptR (s : Fin 4) : FVec F S1024x1024 .f32 := k0_pay90 (ctS m c xb s) (wsl m c s 1)

/-- The same, rows in place. -/
def ptO (s : Fin 4) : FVec F S1x1024x1024 .f32 := fun i => ptR m c xb s (ix2 (unF (i 1)) (i 2))

/-- The output after `k + 1` terms. -/
def outN : ℕ → FVec F S1x1024x1024 .f32
  | 0 => ptO m c xb 0
  | k + 1 => addf (outN k) (ptO m c xb (Fin.ofNat 4 (k + 1)))

/-! ## The contexts' pieces -/

/-- The first `n` heads' places hold their contexts, whatever was there before. -/
def CInv (n : ℕ) (L : List (View.Piece (Elt F) S4x1024x1024 .bf16)) : Prop :=
  ∀ (f : S4x1024x1024.Idx → Elt F .bf16) (y : S4x1024x1024.Idx), 8 * (y 0).val + (y 2).val / 128 < n → ctM.view.read (Elt F) (ctM.view.writes (Elt F) f L) y = ctC m c xb y

theorem ct_zero : CInv m c xb 0 [] := fun f y h => absurd h (Nat.not_lt_zero _)

theorem memct (s o : ℕ) (hb) (y : S4x1024x1024.Idx) :
    y ∈ (Rect.unit (s := S4x1024x1024) ![s, 0, o] S1x1024x128.size hb).set ↔ (s ≤ (y 0).val ∧ (y 0).val < s + 1) ∧ (o ≤ (y 2).val ∧ (y 2).val < o + 128) := by
  rw [Rect.mem_set_unit, Fin.forall_fin_succ, Fin.forall_fin_succ, Fin.forall_fin_succ]
  have h1 : (y 1).val < 1024 := (y 1).isLt
  show ((s ≤ (y 0).val ∧ (y 0).val < s + 1) ∧ (0 ≤ (y 1).val ∧ (y 1).val < 0 + 1024) ∧ (o ≤ (y 2).val ∧ (y 2).val < o + 128) ∧ _) ↔ _
  constructor
  · rintro ⟨h0, -, h2, -⟩; exact ⟨h0, h2⟩
  · rintro ⟨h0, h2⟩; exact ⟨h0, by omega, h2, fun x => x.elim0⟩

theorem ct_step (n : ℕ) (s : Fin 4) (h : Fin 8) (hn : n = 8 * s.val + h.val) (so o : ℕ) (hs : so = s.val) (ho : o = 128 * h.val) (hb)
    (p : S1x1024x128.Idx → Elt F .bf16) (hp : p = hdP m c xb s h) (L : List (View.Piece (Elt F) S4x1024x1024 .bf16)) (hL : CInv m c xb n L) :
    CInv m c xb (n + 1) (⟨Rect.unit (s := S4x1024x1024) ![so, 0, o] S1x1024x128.size hb, p⟩ :: L) := by
  subst hp hn hs ho
  intro f y hy
  refine v_step ctM.view f (ctC m c xb) L (fun y => 8 * (y 0).val + (y 2).val / 128 < 8 * s.val + h.val) (fun y => hL f y)
    (Rect.unit (s := S4x1024x1024) ![s.val, 0, 128 * h.val] S1x1024x128.size hb) (hdP m c xb s h) ?_ y ?_
  · intro x
    have h0 : (x 0).val < 1 := (x 0).isLt
    have h2 : (x 2).val < 128 := (x 2).isLt
    have e0 : ((Rect.unit (s := S4x1024x1024) ![s.val, 0, 128 * h.val] S1x1024x128.size hb).emb x) 0 = s :=
      Fin.ext (show s.val + 1 * (x 0).val = s.val by omega)
    have e1 : ((Rect.unit (s := S4x1024x1024) ![s.val, 0, 128 * h.val] S1x1024x128.size hb).emb x) 1 = (x 1 : Fin 1024) :=
      Fin.ext (show 0 + 1 * (x 1).val = (x 1).val by omega)
    have e2 : (((Rect.unit (s := S4x1024x1024) ![s.val, 0, 128 * h.val] S1x1024x128.size hb).emb x) 2).val = 128 * h.val + (x 2).val :=
      show 128 * h.val + 1 * (x 2).val = _ by omega
    have key : ∀ (a : Fin 4) (b : Fin 8) (u : S1x1024x128.Idx), a = s → b = h → u = x → hdP m c xb s h x = hdP m c xb a b u := by
      rintro a b u rfl rfl rfl; rfl
    refine key _ _ _ e0 (Fin.ext (by show _ / 128 = _; rw [e2]; omega)) ?_
    funext a; apply Fin.ext; revert a
    refine Fin.cases ?_ (Fin.cases ?_ (Fin.cases ?_ (fun k => k.elim0)))
    · show 0 = (x 0).val; omega
    · exact congrArg Fin.val e1
    · show (((Rect.unit (s := S4x1024x1024) ![s.val, 0, 128 * h.val] S1x1024x128.size hb).emb x) 2).val % 128 = (x 2).val
      rw [e2]; omega
  · rw [memct]
    have h2 : (y 2).val < 1024 := (y 2).isLt
    have hh := h.isLt
    omega

/-- A whole slot, read back out of the pieces. -/
theorem ct_load (n : ℕ) (s : Fin 4) (hn : 8 * s.val + 8 ≤ n) (L : List (View.Piece (Elt F) S4x1024x1024 .bf16)) (hL : CInv m c xb n L) (so : ℕ) (hs : so = s.val) (hb) :
    ctM.view.readCov L (Rect.unit (s := S4x1024x1024) ![so, 0, 0] S1x1024x1024.size hb).toLoadRect = ctS m c xb s := by
  subst hs
  funext x
  refine hL _ _ ?_
  have h0 : (x 0).val < 1 := (x 0).isLt
  have h2 : (x 2).val < 1024 := (x 2).isLt
  show 8 * (s.val + 1 * (x 0).val) + (0 + 1 * (x 2).val) / 128 < n
  omega

/-! ## The output's pieces -/

/-- The position in block order of the block of 64 rows that row `y` is in. -/
def bko (y : S1x1024x1024.Idx) : ℕ := unp (y 1).val / 64
theorem bko_lt (y : S1x1024x1024.Idx) : bko y < 16 := by
  have h : (y 1).val < 1024 := (y 1).isLt
  unfold bko unp; omega

/-- After the first `n` block writes. -/
def OInv (n : ℕ) (L : List (View.Piece (Elt F) S1x1024x1024 .f32)) : Prop :=
  ∀ (f : S1x1024x1024.Idx → Elt F .f32) (y : S1x1024x1024.Idx), bko y < n → oM.view.read (Elt F) (oM.view.writes (Elt F) f L) y = outN m c xb ((n + 15 - bko y) / 16 - 1) y

theorem o_zero : OInv m c xb 0 [] := fun f y h => absurd h (Nat.not_lt_zero _)

theorem memo (o : ℕ) (hb) (y : S1x1024x1024.Idx) :
    y ∈ (Rect.unit (s := S1x1024x1024) ![0, o, 0] S1x64x1024.size hb).set ↔ (o ≤ (y 1).val ∧ (y 1).val < o + 64) := by
  rw [Rect.mem_set_unit, Fin.forall_fin_succ, Fin.forall_fin_succ, Fin.forall_fin_succ]
  have h0 : (y 0).val < 1 := (y 0).isLt
  have h2 : (y 2).val < 1024 := (y 2).isLt
  show ((0 ≤ (y 0).val ∧ (y 0).val < 0 + 1) ∧ (o ≤ (y 1).val ∧ (y 1).val < o + 64) ∧ (0 ≤ (y 2).val ∧ (y 2).val < 0 + 1024) ∧ _) ↔ _
  constructor
  · rintro ⟨-, h1, -⟩; exact h1
  · rintro h1; exact ⟨by omega, h1, by omega, fun x => x.elim0⟩

/-- The block of rows the `n`-th write puts, read off its place. -/
theorem o_emb (s : Fin 4) (j : Fin 16) (o : ℕ) (ho : o = 64 * (j.val / 4 + 4 * (j.val % 4))) (hb) (x : S1x64x1024.Idx)
    (X : FVec F S1024x1024 .f32) (h : S1024x1024.Slices ![64 * j.val, 0] S64x1024) (h') :
    shapeCast S1x64x1024 (extractStridedSlice S64x1024 ![64 * j.val, 0] X h) h' x
      = X (ix2 (unF (((Rect.unit (s := S1x1024x1024) ![0, o, 0] S1x64x1024.size hb).emb x) 1)) (((Rect.unit (s := S1x1024x1024) ![0, o, 0] S1x64x1024.size hb).emb x) 2)) := by
  subst ho
  obtain ⟨u, v, w, rfl⟩ : ∃ (u : Fin 1) (v : Fin 64) (w : Fin 1024), x = ix3 u v w := ⟨x 0, x 1, x 2, ix3_eta x⟩
  obtain rfl : u = ⟨0, Nat.one_pos⟩ := Fin.ext (by omega)
  refine (shapeCast_ab_1ab_apply _ h' _ v w).trans ?_
  refine congrArg X ?_
  have hj := j.isLt
  have hv := v.isLt
  funext a; apply Fin.ext; revert a
  refine Fin.cases ?_ (Fin.cases ?_ (fun k => k.elim0))
  · show 64 * j.val + v.val = unp (64 * (j.val / 4 + 4 * (j.val % 4)) + 1 * v.val)
    unfold unp; omega
  · show 0 + w.val = 0 + 1 * w.val; omega

theorem o_set (n : ℕ) (s : Fin 4) (j : Fin 16) (hn : n = 16 * s.val + j.val) (o : ℕ) (ho : o = 64 * (j.val / 4 + 4 * (j.val % 4))) (hb)
    (p : S1x64x1024.Idx → Elt F .f32) (hp : ∀ x : S1x64x1024.Idx, p x = outN m c xb s.val ((Rect.unit (s := S1x1024x1024) ![0, o, 0] S1x64x1024.size hb).emb x))
    (L : List (View.Piece (Elt F) S1x1024x1024 .f32)) (hL : OInv m c xb n L) :
    OInv m c xb (n + 1) (⟨Rect.unit (s := S1x1024x1024) ![0, o, 0] S1x64x1024.size hb, p⟩ :: L) := by
  subst hn ho
  intro f y hy
  have hj := j.isLt
  have hy1 : (y 1).val < 1024 := (y 1).isLt
  by_cases hm : y ∈ (Rect.unit (s := S1x1024x1024) ![0, 64 * (j.val / 4 + 4 * (j.val % 4)), 0] S1x64x1024.size hb).set
  · have hq : bko y = j.val := by rw [memo] at hm; unfold bko unp; omega
    rw [hq, show (16 * s.val + j.val + 1 + 15 - j.val) / 16 - 1 = s.val by omega]
    exact v_step oM.view f (outN m c xb s.val) L (fun _ => False) (fun _ h => h.elim)
      (Rect.unit (s := S1x1024x1024) ![0, 64 * (j.val / 4 + 4 * (j.val % 4)), 0] S1x64x1024.size hb) p hp y (Or.inl hm)
  · have hq : bko y ≠ j.val := by rw [memo] at hm; unfold bko unp; omega
    have hl := bko_lt y
    rw [show (16 * s.val + j.val + 1 + 15 - bko y) / 16 - 1 = (16 * s.val + j.val + 15 - bko y) / 16 - 1 by omega]
    exact (View.read_writes_cons_miss oM.view f _ L y hm).trans (hL f y (by omega))

theorem slc (j : Fin 16) : S1024x1024.Slices ![64 * j.val, 0] S64x1024 := by revert j; decide

theorem o_first (n : ℕ) (j : Fin 16) (hn : n = j.val) (o : ℕ) (ho : o = 64 * (j.val / 4 + 4 * (j.val % 4))) (hb)
    (p : S1x64x1024.Idx → Elt F .f32) (X : FVec F S1024x1024 .f32) (hX : X = ptR m c xb 0) (h')
    (hp : p = shapeCast S1x64x1024 (extractStridedSlice S64x1024 ![64 * j.val, 0] X (slc j)) h')
    (L : List (View.Piece (Elt F) S1x1024x1024 .f32)) (hL : OInv m c xb n L) :
    OInv m c xb (n + 1) (⟨Rect.unit (s := S1x1024x1024) ![0, o, 0] S1x64x1024.size hb, p⟩ :: L) := by
  subst hp hX
  exact o_set m c xb n 0 j (by show n = 16 * 0 + j.val; omega) o ho hb _ (fun x => o_emb 0 j o ho hb x _ (slc j) h') L hL

theorem o_next (n : ℕ) (k : ℕ) (hk : k < 3) (j : Fin 16) (hn : n = 16 * (k + 1) + j.val) (o : ℕ) (ho : o = 64 * (j.val / 4 + 4 * (j.val % 4))) (hb)
    (p : S1x64x1024.Idx → Elt F .f32) (X : FVec F S1024x1024 .f32) (hX : X = ptR m c xb (Fin.ofNat 4 (k + 1))) (h') (h'')
    (L : List (View.Piece (Elt F) S1x1024x1024 .f32))
    (hp : p = shapeCast S1x64x1024 (addf (shapeCast S64x1024 (oM.view.readCov L (Rect.unit (s := S1x1024x1024) ![0, o, 0] S1x64x1024.size hb).toLoadRect) h'')
      (extractStridedSlice S64x1024 ![64 * j.val, 0] X (slc j))) h')
    (hL : OInv m c xb n L) :
    OInv m c xb (n + 1) (⟨Rect.unit (s := S1x1024x1024) ![0, o, 0] S1x64x1024.size hb, p⟩ :: L) := by
  subst hp hX
  have hj := j.isLt
  refine o_set m c xb n (Fin.ofNat 4 (k + 1)) j (by show n = 16 * ((k + 1) % 4) + j.val; omega) o ho hb _ (fun x => ?_) L hL
  rw [show (Fin.ofNat 4 (k + 1)).val = k + 1 from Nat.mod_eq_of_lt (by omega)]
  refine congrArg₂ FloatOps.addf ?_ (o_emb 0 j o ho hb x _ (slc j) h')
  have hq : bko ((Rect.unit (s := S1x1024x1024) ![0, o, 0] S1x64x1024.size hb).emb x) = j.val := by
    have hx : (x 1).val < 64 := (x 1).isLt
    subst ho
    show unp (64 * (j.val / 4 + 4 * (j.val % 4)) + 1 * (x 1).val) / 64 = j.val
    unfold unp; omega
  have e := hL oM.view.junk ((Rect.unit (s := S1x1024x1024) ![0, o, 0] S1x64x1024.size hb).emb x) (by rw [hq]; omega)
  rw [hq, show (n + 15 - j.val) / 16 - 1 = k by omega] at e
  refine Eq.trans ?_ e
  obtain ⟨u, v, w, rfl⟩ : ∃ (u : Fin 1) (v : Fin 64) (w : Fin 1024), x = ix3 u v w := ⟨x 0, x 1, x 2, ix3_eta x⟩
  refine (shapeCast_ab_1ab_apply (shapeCast S64x1024 _ h'') h' u v w).trans ?_
  refine (shapeCast_1ab_ab_apply _ h'' v w).trans ?_
  obtain rfl : u = ⟨0, Nat.one_pos⟩ := Fin.ext (by omega)
  rfl

end Cert.KProof
end
-- ==== Proof.Outs.lean ====
module

public import proofs.«01_k».proof.Proof.Ctx

/-! The pieces the run writes are the closed forms. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (c : Dev nD) (xb : S1x1024x1024.Idx → Elt F .bf16)

theorem ct8 : CInv m c xb 8 (runA.sl.Hct_8 m c xb) :=
  (ct_step m c xb 7 0 7 rfl _ _ rfl rfl _ _ rfl _
    (ct_step m c xb 6 0 6 rfl _ _ rfl rfl _ _ rfl _
    (ct_step m c xb 5 0 5 rfl _ _ rfl rfl _ _ rfl _
    (ct_step m c xb 4 0 4 rfl _ _ rfl rfl _ _ rfl _
    (ct_step m c xb 3 0 3 rfl _ _ rfl rfl _ _ rfl _
    (ct_step m c xb 2 0 2 rfl _ _ rfl rfl _ _ rfl _
    (ct_step m c xb 1 0 1 rfl _ _ rfl rfl _ _ rfl _
    (ct_step m c xb 0 0 0 rfl _ _ rfl rfl _ _ rfl _
    (ct_zero m c xb)))))))))
theorem ct31 : CInv m c xb 31 (runD.sl.Hct_31 m c xb) :=
  (ct_step m c xb 30 3 6 rfl _ _ rfl rfl _ _ rfl _
    (ct_step m c xb 29 3 5 rfl _ _ rfl rfl _ _ rfl _
    (ct_step m c xb 28 3 4 rfl _ _ rfl rfl _ _ rfl _
    (ct_step m c xb 27 3 3 rfl _ _ rfl rfl _ _ rfl _
    (ct_step m c xb 26 3 2 rfl _ _ rfl rfl _ _ rfl _
    (ct_step m c xb 25 3 1 rfl _ _ rfl rfl _ _ rfl _
    (ct_step m c xb 24 3 0 rfl _ _ rfl rfl _ _ rfl _
    (ct_step m c xb 23 2 7 rfl _ _ rfl rfl _ _ rfl _
    (ct_step m c xb 22 2 6 rfl _ _ rfl rfl _ _ rfl _
    (ct_step m c xb 21 2 5 rfl _ _ rfl rfl _ _ rfl _
    (ct_step m c xb 20 2 4 rfl _ _ rfl rfl _ _ rfl _
    (ct_step m c xb 19 2 3 rfl _ _ rfl rfl _ _ rfl _
    (ct_step m c xb 18 2 2 rfl _ _ rfl rfl _ _ rfl _
    (ct_step m c xb 17 2 1 rfl _ _ rfl rfl _ _ rfl _
    (ct_step m c xb 16 2 0 rfl _ _ rfl rfl _ _ rfl _
    (ct_step m c xb 15 1 7 rfl _ _ rfl rfl _ _ rfl _
    (ct_step m c xb 14 1 6 rfl _ _ rfl rfl _ _ rfl _
    (ct_step m c xb 13 1 5 rfl _ _ rfl rfl _ _ rfl _
    (ct_step m c xb 12 1 4 rfl _ _ rfl rfl _ _ rfl _
    (ct_step m c xb 11 1 3 rfl _ _ rfl rfl _ _ rfl _
    (ct_step m c xb 10 1 2 rfl _ _ rfl rfl _ _ rfl _
    (ct_step m c xb 9 1 1 rfl _ _ rfl rfl _ _ rfl _
    (ct_step m c xb 8 1 0 rfl _ _ rfl rfl _ _ rfl _
    (ct8 m c xb))))))))))))))))))))))))
abbrev ctL : List (View.Piece (Elt F) S4x1024x1024 .bf16) :=
  ⟨Rect.unit ![3, 0, 896] S1x1024x128.size (by decide), hdP m c xb 3 7⟩ :: runD.sl.Hct_31 m c xb
theorem ct32 : CInv m c xb 32 (ctL m c xb) := (ct_step m c xb 31 3 7 rfl _ _ rfl rfl _ _ rfl _ (ct31 m c xb))

theorem o16 : OInv m c xb 16 (runA.sl.Ho_16 m c xb) :=
  have pt0 : k0_pay23 (runA.sl.v762 m c xb) (wsl m c 0 1) = ptR m c xb 0 := congrArg (fun z => k0_pay23 z (wsl m c 0 1)) (ct_load m c xb 8 0 (by decide) _ (ct8 m c xb) 0 rfl _)
  (o_first m c xb 15 15 rfl _ rfl _ _ _ pt0 _ rfl _
    (o_first m c xb 14 14 rfl _ rfl _ _ _ pt0 _ rfl _
    (o_first m c xb 13 13 rfl _ rfl _ _ _ pt0 _ rfl _
    (o_first m c xb 12 12 rfl _ rfl _ _ _ pt0 _ rfl _
    (o_first m c xb 11 11 rfl _ rfl _ _ _ pt0 _ rfl _
    (o_first m c xb 10 10 rfl _ rfl _ _ _ pt0 _ rfl _
    (o_first m c xb 9 9 rfl _ rfl _ _ _ pt0 _ rfl _
    (o_first m c xb 8 8 rfl _ rfl _ _ _ pt0 _ rfl _
    (o_first m c xb 7 7 rfl _ rfl _ _ _ pt0 _ rfl _
    (o_first m c xb 6 6 rfl _ rfl _ _ _ pt0 _ rfl _
    (o_first m c xb 5 5 rfl _ rfl _ _ _ pt0 _ rfl _
    (o_first m c xb 4 4 rfl _ rfl _ _ _ pt0 _ rfl _
    (o_first m c xb 3 3 rfl _ rfl _ _ _ pt0 _ rfl _
    (o_first m c xb 2 2 rfl _ rfl _ _ _ pt0 _ rfl _
    (o_first m c xb 1 1 rfl _ rfl _ _ _ pt0 _ rfl _
    (o_first m c xb 0 0 rfl _ rfl _ _ _ pt0 _ rfl _
    (o_zero m c xb)))))))))))))))))
theorem o32 : OInv m c xb 32 (runE.sl.Ho_32 m c xb) :=
  have pt1 : k0_pay90 (runE.sl.v2205 m c xb) (wsl m c 1 1) = ptR m c xb (Fin.ofNat 4 (0 + 1)) := congrArg (fun z => k0_pay90 z (wsl m c 1 1)) (ct_load m c xb 32 1 (by decide) _ (ct32 m c xb) 1 rfl _)
  (o_next m c xb 31 0 (by decide) 15 rfl _ rfl _ _ _ pt1 _ _ _ rfl
    (o_next m c xb 30 0 (by decide) 14 rfl _ rfl _ _ _ pt1 _ _ _ rfl
    (o_next m c xb 29 0 (by decide) 13 rfl _ rfl _ _ _ pt1 _ _ _ rfl
    (o_next m c xb 28 0 (by decide) 12 rfl _ rfl _ _ _ pt1 _ _ _ rfl
    (o_next m c xb 27 0 (by decide) 11 rfl _ rfl _ _ _ pt1 _ _ _ rfl
    (o_next m c xb 26 0 (by decide) 10 rfl _ rfl _ _ _ pt1 _ _ _ rfl
    (o_next m c xb 25 0 (by decide) 9 rfl _ rfl _ _ _ pt1 _ _ _ rfl
    (o_next m c xb 24 0 (by decide) 8 rfl _ rfl _ _ _ pt1 _ _ _ rfl
    (o_next m c xb 23 0 (by decide) 7 rfl _ rfl _ _ _ pt1 _ _ _ rfl
    (o_next m c xb 22 0 (by decide) 6 rfl _ rfl _ _ _ pt1 _ _ _ rfl
    (o_next m c xb 21 0 (by decide) 5 rfl _ rfl _ _ _ pt1 _ _ _ rfl
    (o_next m c xb 20 0 (by decide) 4 rfl _ rfl _ _ _ pt1 _ _ _ rfl
    (o_next m c xb 19 0 (by decide) 3 rfl _ rfl _ _ _ pt1 _ _ _ rfl
    (o_next m c xb 18 0 (by decide) 2 rfl _ rfl _ _ _ pt1 _ _ _ rfl
    (o_next m c xb 17 0 (by decide) 1 rfl _ rfl _ _ _ pt1 _ _ _ rfl
    (o_next m c xb 16 0 (by decide) 0 rfl _ rfl _ _ _ pt1 _ _ _ rfl
    (o16 m c xb)))))))))))))))))
theorem o48 : OInv m c xb 48 (runE.sl.Ho_48 m c xb) :=
  have pt2 : k0_pay109 (runE.sl.v2322 m c xb) (wsl m c 2 1) = ptR m c xb (Fin.ofNat 4 (1 + 1)) := congrArg (fun z => k0_pay90 z (wsl m c 2 1)) (ct_load m c xb 32 2 (by decide) _ (ct32 m c xb) 2 rfl _)
  (o_next m c xb 47 1 (by decide) 15 rfl _ rfl _ _ _ pt2 _ _ _ rfl
    (o_next m c xb 46 1 (by decide) 14 rfl _ rfl _ _ _ pt2 _ _ _ rfl
    (o_next m c xb 45 1 (by decide) 13 rfl _ rfl _ _ _ pt2 _ _ _ rfl
    (o_next m c xb 44 1 (by decide) 12 rfl _ rfl _ _ _ pt2 _ _ _ rfl
    (o_next m c xb 43 1 (by decide) 11 rfl _ rfl _ _ _ pt2 _ _ _ rfl
    (o_next m c xb 42 1 (by decide) 10 rfl _ rfl _ _ _ pt2 _ _ _ rfl
    (o_next m c xb 41 1 (by decide) 9 rfl _ rfl _ _ _ pt2 _ _ _ rfl
    (o_next m c xb 40 1 (by decide) 8 rfl _ rfl _ _ _ pt2 _ _ _ rfl
    (o_next m c xb 39 1 (by decide) 7 rfl _ rfl _ _ _ pt2 _ _ _ rfl
    (o_next m c xb 38 1 (by decide) 6 rfl _ rfl _ _ _ pt2 _ _ _ rfl
    (o_next m c xb 37 1 (by decide) 5 rfl _ rfl _ _ _ pt2 _ _ _ rfl
    (o_next m c xb 36 1 (by decide) 4 rfl _ rfl _ _ _ pt2 _ _ _ rfl
    (o_next m c xb 35 1 (by decide) 3 rfl _ rfl _ _ _ pt2 _ _ _ rfl
    (o_next m c xb 34 1 (by decide) 2 rfl _ rfl _ _ _ pt2 _ _ _ rfl
    (o_next m c xb 33 1 (by decide) 1 rfl _ rfl _ _ _ pt2 _ _ _ rfl
    (o_next m c xb 32 1 (by decide) 0 rfl _ rfl _ _ _ pt2 _ _ _ rfl
    (o32 m c xb)))))))))))))))))
theorem o63 : OInv m c xb 63 (runF.sl.Ho_63 m c xb) :=
  have pt3 : k0_pay129 (runF.sl.v2455 m c xb) (wsl m c 3 1) = ptR m c xb (Fin.ofNat 4 (2 + 1)) := congrArg (fun z => k0_pay90 z (wsl m c 3 1)) (ct_load m c xb 32 3 (by decide) _ (ct32 m c xb) 3 rfl _)
  (o_next m c xb 62 2 (by decide) 14 rfl _ rfl _ _ _ pt3 _ _ _ rfl
    (o_next m c xb 61 2 (by decide) 13 rfl _ rfl _ _ _ pt3 _ _ _ rfl
    (o_next m c xb 60 2 (by decide) 12 rfl _ rfl _ _ _ pt3 _ _ _ rfl
    (o_next m c xb 59 2 (by decide) 11 rfl _ rfl _ _ _ pt3 _ _ _ rfl
    (o_next m c xb 58 2 (by decide) 10 rfl _ rfl _ _ _ pt3 _ _ _ rfl
    (o_next m c xb 57 2 (by decide) 9 rfl _ rfl _ _ _ pt3 _ _ _ rfl
    (o_next m c xb 56 2 (by decide) 8 rfl _ rfl _ _ _ pt3 _ _ _ rfl
    (o_next m c xb 55 2 (by decide) 7 rfl _ rfl _ _ _ pt3 _ _ _ rfl
    (o_next m c xb 54 2 (by decide) 6 rfl _ rfl _ _ _ pt3 _ _ _ rfl
    (o_next m c xb 53 2 (by decide) 5 rfl _ rfl _ _ _ pt3 _ _ _ rfl
    (o_next m c xb 52 2 (by decide) 4 rfl _ rfl _ _ _ pt3 _ _ _ rfl
    (o_next m c xb 51 2 (by decide) 3 rfl _ rfl _ _ _ pt3 _ _ _ rfl
    (o_next m c xb 50 2 (by decide) 2 rfl _ rfl _ _ _ pt3 _ _ _ rfl
    (o_next m c xb 49 2 (by decide) 1 rfl _ rfl _ _ _ pt3 _ _ _ rfl
    (o_next m c xb 48 2 (by decide) 0 rfl _ rfl _ _ _ pt3 _ _ _ rfl
    (o48 m c xb))))))))))))))))
/-- The output after the run. -/
theorem o_all (f : S1x1024x1024.Idx → Elt F .f32) (hb) :
    oM.view.writes (Elt F) f (⟨Rect.unit (s := S1x1024x1024) ![0, 960, 0] S1x64x1024.size hb, k0_pay149 (runF.sl.r m c xb) (runF.sl.v2566 m c xb)⟩ :: runF.sl.Ho_63 m c xb)
      = outN m c xb 3 :=
  have pt3 : k0_pay129 (runF.sl.v2455 m c xb) (wsl m c 3 1) = ptR m c xb (Fin.ofNat 4 (2 + 1)) := congrArg (fun z => k0_pay90 z (wsl m c 3 1)) (ct_load m c xb 32 3 (by decide) _ (ct32 m c xb) 3 rfl _)
  have e : OInv m c xb 64 (⟨Rect.unit (s := S1x1024x1024) ![0, 960, 0] S1x64x1024.size hb, k0_pay149 (runF.sl.r m c xb) (runF.sl.v2566 m c xb)⟩ :: runF.sl.Ho_63 m c xb) :=
    o_next m c xb 63 2 (by decide) 15 rfl _ rfl _ _ _ pt3 _ _ _ rfl (o63 m c xb)
  (rd_whole cc0_stg1_0 _).symm.trans <| funext fun y => (e f y (Nat.lt_of_lt_of_le (bko_lt y) (by decide))).trans <| by
    have h := bko_lt y
    rw [show (64 + 15 - bko y) / 16 - 1 = 3 by omega]

end Cert.KProof
end
-- ==== Proof.RunG.lean ====
module

public import proofs.«01_k».proof.Proof.Outs

/-! The whole body: what a device holds when it returns. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem re_o (c : Dev nD) (g : S1x1024x1024.Idx → Elt F .f32) {f : S1x1024x1024.Idx → Elt F .f32} (h : f = g) :
    (oM.view.loc (c : Thread nD τ) ↦{fullShare} f : sProp 𝕄) ⊢ (oM.view.loc (c : Thread nD τ) ↦{fullShare} g : sProp 𝕄) :=
  Entails.of_eq (congrArg (fun f => (oM.view.loc (c : Thread nD τ) ↦{fullShare} f : sProp 𝕄)) h)

/-- A cell whose only round is over gives its counter back at zero. -/
theorem close (κ : GSem nD τ sig → ℕ) (g : GSem nD τ sig) (hg : g ∈ (barCells ∪ scCells : Finset (GSem nD τ sig))) :
    iprop(records m κ ∗ atPos ER g (0 + 1) ∅ 0) ⊢ (|={Set.univ}=> semVal g 0 : sProp 𝕄) := by
  iintro ⟨#HI, Ha⟩
  iapply (Rounds.cell_close ER (talkRd m) (Set.mem_univ (κ g)) id (duties_later m g))
  isplitr; · iapply (inv_at m κ hg); iexact HI
  iexact Ha

/-- The region's own semaphores, one by one. -/
theorem ownSems_eq (c : Dev nD) : (Pipeline.ownSems0 osem c : sProp 𝕄) =
    iprop(semVal (sC 0 c) 0 ∗ semVal (sC 1 c) 0 ∗ semVal (sC 2 c) 0 ∗ semVal (sC 3 c) 0 ∗ semVal (sC 4 c) 0 ∗ semVal (sC 5 c) 0 ∗ semVal (sC 6 c) 0 ∗ semVal (sC 7 c) 0 ∗ semVal (rC 0 c) 0 ∗ semVal (rC 1 c) 0 ∗ semVal (rC 2 c) 0 ∗ semVal (rC 3 c) 0 ∗ semVal (rC 4 c) 0 ∗ semVal (rC 5 c) 0 ∗ semVal (rC 6 c) 0 ∗ semVal (rC 7 c) 0 ∗ semVal ((c : Thread nD τ), sd 18) 0 ∗ semVal ((c : Thread nD τ), sd 19) 0 ∗ semVal ((c : Thread nD τ), sd 20) 0 ∗ semVal ((c : Thread nD τ), sd 21) 0 ∗ semVal ((c : Thread nD τ), sd 22) 0 ∗ semVal ((c : Thread nD τ), sd 23) 0) := by
  unfold Pipeline.ownSems0
  rw [bigSep_univ_eq_bigSepL [0, 1, 2, 3, 4, 5, 6, 7, 8, 9, 10, 11, 12, 13, 14, 15, 16, 17, 18, 19, 20, 21] (by decide) (by decide)]
  rfl

/-- What a device holds when the body returns: the result in the output window, everything else back, every counter at zero. -/
def Post (c : Dev nD) (xb : Buf (Elt F) (xM.view.loc (c : Thread nD τ))) : sProp 𝕄 :=
    iprop((xM.view.loc (c : Thread nD τ) ↦{fullShare} xb) ∗ (oM.view.loc (c : Thread nD τ) ↦{fullShare} outN m c xb 3)
      ∗ (wqM.view.loc (c : Thread nD τ) ↦{fullShare} wqv m c) ∗ (woM.view.loc (c : Thread nD τ) ↦{fullShare} wov m c)
      ∗ (kM.view.loc (c : Thread nD τ) ↦{fullShare} V m c main_arg2) ∗ (vM.view.loc (c : Thread nD τ) ↦{fullShare} V m c main_arg3)
      ∗ (∃ f : Buf (Elt F) (cM.view.loc (c : Thread nD τ)), (cM.view.loc (c : Thread nD τ) ↦{fullShare} f))
      ∗ (∃ f : Buf (Elt F) (kbM.view.loc (c : Thread nD τ)), (kbM.view.loc (c : Thread nD τ) ↦{fullShare} f)) ∗ (∃ f : Buf (Elt F) (vbM.view.loc (c : Thread nD τ)), (vbM.view.loc (c : Thread nD τ) ↦{fullShare} f))
      ∗ (∃ f : Buf (Elt F) (khM.view.loc (c : Thread nD τ)), (khM.view.loc (c : Thread nD τ) ↦{fullShare} f)) ∗ (∃ f : Buf (Elt F) (vhM.view.loc (c : Thread nD τ)), (vhM.view.loc (c : Thread nD τ) ↦{fullShare} f))
      ∗ (∃ f : Buf (Elt F) (ctM.view.loc (c : Thread nD τ)), (ctM.view.loc (c : Thread nD τ) ↦{fullShare} f))
      ∗ semVal (barC c) 0 ∗ Pipeline.ownSems0 osem c ∗ ∃ W, owes (c : Thread nD τ) (Ow c 10) W)

theorem run_all (c : Dev nD) (κ : GSem nD τ sig → ℕ) (xb : Buf (Elt F) (xM.view.loc (c : Thread nD τ))) (W : Waits sig Unit)
    (fo : Buf (Elt F) (oM.view.loc (c : Thread nD τ))) (fc : Buf (Elt F) (cM.view.loc (c : Thread nD τ)))
    (fkb : Buf (Elt F) (kbM.view.loc (c : Thread nD τ))) (fvb : Buf (Elt F) (vbM.view.loc (c : Thread nD τ)))
    (fkh : Buf (Elt F) (khM.view.loc (c : Thread nD τ))) (fvh : Buf (Elt F) (vhM.view.loc (c : Thread nD τ)))
    (fct : Buf (Elt F) (ctM.view.loc (c : Thread nD τ)))
     (K : PUnit → sProp 𝕄) :
    Pre m c κ xb W fo fc fkb fvb fkh fvh fct iprop(Post m c xb -∗ K ⟨⟩)
      ⊢ wp frame (wpE (defs₀ (F := F)) 𝒱₀ (c : Thread nD τ) none) Set.univ (body (F := F)) K := by
  let R : sProp 𝕄 := iprop(Post m c xb -∗ K ⟨⟩)
  let _plan20 : Transfers.BatchOf (c : Thread nD τ) (sd 20) 16 (windows := true) := ⟨⟩
  let _plan21 : Transfers.BatchOf (c : Thread nD τ) (sd 21) 16 (windows := true) := ⟨⟩
  let _plan22 : Transfers.BatchOf (c : Thread nD τ) (sd 22) 8 (windows := true) := ⟨⟩
  let _plan23 : Transfers.BatchOf (c : Thread nD τ) (sd 23) 8 (windows := true) := ⟨⟩
  refine (runA m c κ xb W fo fc fkb fvb fkh fvh fct R _plan20 _plan21 _plan22 _plan23 K).2 ((runB m c κ xb W fo fc fkb fvb fkh fvh fct R _plan20 _plan21 _plan22 _plan23 K).2 ((runC m c κ xb W fo fc fkb fvb fkh fvh fct R _plan20 _plan21 _plan22 _plan23 K).2 ((runD m c κ xb W fo fc fkb fvb fkh fvh fct R _plan20 _plan21 _plan22 _plan23 K).2 ((runE m c κ xb W fo fc fkb fvb fkh fvh fct R _plan20 _plan21 _plan22 _plan23 K).2 ((runF m c κ xb W fo fc fkb fvb fkh fvh fct R _plan20 _plan21 _plan22 _plan23 K).2 ?_)))))
  sl_resume
  have hmw := mayWait0 (F := F) c
  ihave HO := (owes_ex c 10 _) $$ HO
  icases HO with ⟨%Ws7, HO⟩
  iapply (step_sent m κ c _ 7 _ rfl Ws7 rfl _) $$ [Hsc7 HO Hsa7]
  · isplitr; · iexact HR
    isplitl [Hsc7]; · iexact Hsc7
    isplitl [HO]; · iexact HO
    iexact Hsa7
  iintro ⟨HO, Hsa7, Hd7⟩
  ihave Hd7 := (show sendPay m 7 c ⊢ cP c R2b.view.set fullShare.left (commF m c) from Entails.rfl) $$ Hd7
  sl_exec_parts
  ihave Hc00 := (show (F00.view.loc (c : Thread nD τ) ↦[F00.view.set]{fullShare.right.right} commF m c : sProp 𝕄) ⊢ cP c F00.view.set fullShare.right.right (commF m c) from Entails.rfl) $$ Hc00
  ihave Hc00 := (Entails.of_eq (cP_share c F00.view.set fullShare.right (commF m c)).symm) $$ [Hd1 Hc00]
  · isplitl [Hd1]; · iexact Hd1
    iexact Hc00
  ihave Hc00 := (Entails.of_eq (cP_share c F00.view.set fullShare (commF m c)).symm) $$ [Hd0 Hc00]
  · isplitl [Hd0]; · iexact Hd0
    iexact Hc00
  ihave Hc01 := (show (F01.view.loc (c : Thread nD τ) ↦[F01.view.set]{fullShare.right.right} commF m c : sProp 𝕄) ⊢ cP c F01.view.set fullShare.right.right (commF m c) from Entails.rfl) $$ Hc01
  ihave Hc01 := (Entails.of_eq (cP_share c F01.view.set fullShare.right (commF m c)).symm) $$ [Hd3 Hc01]
  · isplitl [Hd3]; · iexact Hd3
    iexact Hc01
  ihave Hc01 := (Entails.of_eq (cP_share c F01.view.set fullShare (commF m c)).symm) $$ [Hd2 Hc01]
  · isplitl [Hd2]; · iexact Hd2
    iexact Hc01
  ihave Hc10 := (show (F10.view.loc (c : Thread nD τ) ↦[F10.view.set]{fullShare.right} commF m c : sProp 𝕄) ⊢ cP c F10.view.set fullShare.right (commF m c) from Entails.rfl) $$ Hc10
  ihave Hj := (Entails.of_eq (cP_halfC c 1 0 (by decide) (by decide) (by decide) fullShare.left (commF m c)).symm) $$ [Hd4 Hc10b]
  · isplitl [Hd4]; · iexact Hd4
    iexact Hc10b
  ihave Hc10 := (Entails.of_eq (cP_share c F10.view.set fullShare (commF m c)).symm) $$ [Hj Hc10]
  · isplitl [Hj]; · iexact Hj
    iexact Hc10
  ihave Hc20 := (show (F20.view.loc (c : Thread nD τ) ↦[F20.view.set]{fullShare.right} commF m c : sProp 𝕄) ⊢ cP c F20.view.set fullShare.right (commF m c) from Entails.rfl) $$ Hc20
  ihave Hj := (Entails.of_eq (cP_halfC c 2 0 (by decide) (by decide) (by decide) fullShare.left (commF m c)).symm) $$ [Hc20a Hd5]
  · isplitl [Hc20a]; · iexact Hc20a
    iexact Hd5
  ihave Hc20 := (Entails.of_eq (cP_share c F20.view.set fullShare (commF m c)).symm) $$ [Hj Hc20]
  · isplitl [Hj]; · iexact Hj
    iexact Hc20
  ihave Hc11 := (show (F11.view.loc (c : Thread nD τ) ↦[F11.view.set]{fullShare.right} commF m c : sProp 𝕄) ⊢ cP c F11.view.set fullShare.right (commF m c) from Entails.rfl) $$ Hc11
  ihave Hj := (Entails.of_eq (cP_halfR c 1 1 (by decide) (by decide) (by decide) fullShare.left (commF m c)).symm) $$ [Hd6 Hc11b]
  · isplitl [Hd6]; · iexact Hd6
    iexact Hc11b
  ihave Hc11 := (Entails.of_eq (cP_share c F11.view.set fullShare (commF m c)).symm) $$ [Hj Hc11]
  · isplitl [Hj]; · iexact Hj
    iexact Hc11
  ihave Hc21 := (show (F21.view.loc (c : Thread nD τ) ↦[F21.view.set]{fullShare.right} commF m c : sProp 𝕄) ⊢ cP c F21.view.set fullShare.right (commF m c) from Entails.rfl) $$ Hc21
  ihave Hj := (Entails.of_eq (cP_halfR c 2 1 (by decide) (by decide) (by decide) fullShare.left (commF m c)).symm) $$ [Hc21a Hd7]
  · isplitl [Hc21a]; · iexact Hc21a
    iexact Hd7
  ihave Hc21 := (Entails.of_eq (cP_share c F21.view.set fullShare (commF m c)).symm) $$ [Hj Hc21]
  · isplitl [Hj]; · iexact Hj
    iexact Hc21
  ihave Hc30 := (show (F30.view.loc (c : Thread nD τ) ↦[F30.view.set]{fullShare} commF m c : sProp 𝕄) ⊢ cP c F30.view.set fullShare (commF m c) from Entails.rfl) $$ Hc30
  ihave Hc31 := (show (F31.view.loc (c : Thread nD τ) ↦[F31.view.set]{fullShare} commF m c : sProp 𝕄) ⊢ cP c F31.view.set fullShare (commF m c) from Entails.rfl) $$ Hc31
  ihave Hc := (Entails.of_eq (cP_univ c fullShare (commF m c)).symm) $$ [Hc00 Hc01 Hc10 Hc11 Hc20 Hc21 Hc30 Hc31]
  · isplitl [Hc00]; · iexact Hc00
    isplitl [Hc01]; · iexact Hc01
    isplitl [Hc10]; · iexact Hc10
    isplitl [Hc11]; · iexact Hc11
    isplitl [Hc20]; · iexact Hc20
    isplitl [Hc21]; · iexact Hc21
    isplitl [Hc30]; · iexact Hc30
    iexact Hc31
  ihave Ho := (re_o c (outN m c xb 3) ?reo) $$ Ho
  case reo => exact o_all m c xb fo _
  rw [wp_ret]
  imod (close m κ (barC c) (bar_mem c)) $$ [Hba] with Hb0
  · isplitr; · iexact HR
    iexact Hba
  imod (close m κ (sC 0 c) (s_mem 0 c)) $$ [Hsa0] with Hz0
  · isplitr; · iexact HR
    iexact Hsa0
  imod (close m κ (rC 0 c) (r_mem 0 c)) $$ [Hra0] with Hy0
  · isplitr; · iexact HR
    iexact Hra0
  imod (close m κ (sC 1 c) (s_mem 1 c)) $$ [Hsa1] with Hz1
  · isplitr; · iexact HR
    iexact Hsa1
  imod (close m κ (rC 1 c) (r_mem 1 c)) $$ [Hra1] with Hy1
  · isplitr; · iexact HR
    iexact Hra1
  imod (close m κ (sC 2 c) (s_mem 2 c)) $$ [Hsa2] with Hz2
  · isplitr; · iexact HR
    iexact Hsa2
  imod (close m κ (rC 2 c) (r_mem 2 c)) $$ [Hra2] with Hy2
  · isplitr; · iexact HR
    iexact Hra2
  imod (close m κ (sC 3 c) (s_mem 3 c)) $$ [Hsa3] with Hz3
  · isplitr; · iexact HR
    iexact Hsa3
  imod (close m κ (rC 3 c) (r_mem 3 c)) $$ [Hra3] with Hy3
  · isplitr; · iexact HR
    iexact Hra3
  imod (close m κ (sC 4 c) (s_mem 4 c)) $$ [Hsa4] with Hz4
  · isplitr; · iexact HR
    iexact Hsa4
  imod (close m κ (rC 4 c) (r_mem 4 c)) $$ [Hra4] with Hy4
  · isplitr; · iexact HR
    iexact Hra4
  imod (close m κ (sC 5 c) (s_mem 5 c)) $$ [Hsa5] with Hz5
  · isplitr; · iexact HR
    iexact Hsa5
  imod (close m κ (rC 5 c) (r_mem 5 c)) $$ [Hra5] with Hy5
  · isplitr; · iexact HR
    iexact Hra5
  imod (close m κ (sC 6 c) (s_mem 6 c)) $$ [Hsa6] with Hz6
  · isplitr; · iexact HR
    iexact Hsa6
  imod (close m κ (rC 6 c) (r_mem 6 c)) $$ [Hra6] with Hy6
  · isplitr; · iexact HR
    iexact Hra6
  imod (close m κ (sC 7 c) (s_mem 7 c)) $$ [Hsa7] with Hz7
  · isplitr; · iexact HR
    iexact Hsa7
  imod (close m κ (rC 7 c) (r_mem 7 c)) $$ [Hra7] with Hy7
  · isplitr; · iexact HR
    iexact Hra7
  imodintro
  iapply HRest
  unfold Post
  isplitl [Hx]; · iexact Hx
  isplitl [Ho]; · iexact Ho
  isplitl [Hwq]; · iexact Hwq
  isplitl [Hwo]; · iexact Hwo
  isplitl [HK]; · iexact HK
  isplitl [HV]; · iexact HV
  isplitl [Hc]; · iexists _; iexact Hc
  isplitl [Hkb]; · iexists _; iexact Hkb
  isplitl [Hvb]; · iexists _; iexact Hvb
  isplitl [Hkh]; · iexists _; iexact Hkh
  isplitl [Hvh]; · iexists _; iexact Hvh
  isplitl [Hct]; · iexists _; iexact Hct
  isplitl [Hb0]; · iexact Hb0
  isplitr [HO]
  · rw [ownSems_eq]
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hs18]; · iexact Hs18
    isplitl [Hs19]; · iexact Hs19
    isplitl [Hs20]; · iexact Hs20
    isplitl [Hs21]; · iexact Hs21
    isplitl [Hs22]; · iexact Hs22
    iexact Hs23
  · iexists _; iexact HO

end Cert.KProof
end
-- ==== Proof.Deal.lean ====
module

public import proofs.«01_k».proof.Proof.RunG
public import Idealize.ShloMosaic.Lib.Pipeline.Regions
public import Idealize.ShloMosaic.Lib.Pipeline.RegionTalk
public import Idealize.ShloMosaic.Harness.Basic

/-! What is dealt at the launch: every cell's invariant, the rights to open the copies' cells, the tokens each device pays with, the credits. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device keeps for copy `k` until the kernel opens its cells -/

def kL (k : Fin 8) (c : Dev nD) : sProp 𝕄 :=
  iprop((openTok ER (sC k c) ∗ openTok ER (rC k c)) ∗ dutyTok ER (sC k c) 0 false ∗ dutyTok ER (rC k (tgt k c)) 0 false
    ∗ cred (tallyAt (rC k c) () (amt k)))

theorem open_one (κ : GSem nD τ sig → ℕ) (k : Fin 8) (c : Dev nD) :
    iprop(records m κ ∗ kL k c ∗ semVal (sC k c) 0 ∗ semVal (rC k c) 0) ⊢ (|={Set.univ}=> kG k c : sProp 𝕄) := by
  unfold kL kG
  iintro ⟨#HR, ⟨⟨Ho1, Ho2⟩, Ht1, Ht2, Hc⟩, Hv1, Hv2⟩
  imod (Rounds.cell_open ER (talkRd m) (g := sC k c) (Set.mem_univ (κ (sC k c)))) $$ [Ho1 Hv1] with ⟨Ha1, #Hr1⟩
  · isplitr; · iapply (inv_at m κ (s_mem k c)); iexact HR
    isplitl [Ho1] <;> iassumption
  imod (Rounds.cell_open ER (talkRd m) (g := rC k c) (Set.mem_univ (κ (rC k c)))) $$ [Ho2 Hv2] with ⟨Ha2, #Hr2⟩
  · isplitr; · iapply (inv_at m κ (r_mem k c)); iexact HR
    isplitl [Ho2] <;> iassumption
  imodintro
  isplitl [Ha1 Ha2]
  · isplitl [Ha1]; · iexact Ha1
    isplitl [Ha2]; · iexact Ha2
    isplitr; · iexact Hr1
    iexact Hr2
  isplitl [Ht1]; · iexact Ht1
  isplitl [Ht2]; · iexact Ht2
  iexact Hc

theorem open_all (κ : GSem nD τ sig → ℕ) (c : Dev nD) :
    iprop(records m κ ∗ bigSep Finset.univ fun k : Fin 8 => iprop(kL k c ∗ semVal (sC k c) 0 ∗ semVal (rC k c) 0))
      ⊢ (|={Set.univ}=> bigSep Finset.univ fun k : Fin 8 => kG k c : sProp 𝕄) :=
  (bigSep_with_persistent (R := records m κ) (Ψ := fun k : Fin 8 => iprop(|={Set.univ}=> kG k c)) fun k _ => open_one m κ k c).trans (bigSep_fupd _ _)

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The sixteen cells of the copies: eight that send, eight that receive. -/
theorem sixteen (Ψ : GSem nD τ sig → sProp 𝕄) (c : Dev nD) :
    (bigSep Finset.univ fun j : Fin 16 => Ψ ((c : Thread nD τ), osem (j.castLE (by decide))))
      ⊢ iprop((bigSep Finset.univ fun k : Fin 8 => Ψ (sC k c)) ∗ bigSep Finset.univ fun k : Fin 8 => Ψ (rC k c)) := by
  rw [eight, eight, bigSep_univ_eq_bigSepL [0, 1, 2, 3, 4, 5, 6, 7, 8, 9, 10, 11, 12, 13, 14, 15] (by decide) (by decide)]
  show iprop(Ψ (sC 0 c) ∗ Ψ (sC 1 c) ∗ Ψ (sC 2 c) ∗ Ψ (sC 3 c) ∗ Ψ (sC 4 c) ∗ Ψ (sC 5 c) ∗ Ψ (sC 6 c) ∗ Ψ (sC 7 c)
    ∗ Ψ (rC 0 c) ∗ Ψ (rC 1 c) ∗ Ψ (rC 2 c) ∗ Ψ (rC 3 c) ∗ Ψ (rC 4 c) ∗ Ψ (rC 5 c) ∗ Ψ (rC 6 c) ∗ Ψ (rC 7 c)) ⊢ _
  iintro ⟨H0, H1, H2, H3, H4, H5, H6, H7, HR⟩
  isplitr [HR]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HR

/-! ## The tokens -/

theorem dma_ne (n : DmaSem sig) (s : Sem sig) : (SemLoc.dma n : SemLoc sig) ≠ .reg s := nofun
theorem pair {ι : Type} [Fintype ι] {Φ Ψ : ι → sProp 𝕄} :
    iprop(bigSep Finset.univ Φ ∗ bigSep Finset.univ Ψ) ⊢ bigSep Finset.univ (fun c => iprop(Φ c ∗ Ψ c)) :=
  Entails.of_eq (BI.bigSep_sep _ _ _).symm

def barTok : Dev nD × Bool ↪ GSem nD τ sig × ℕ × Bool :=
  ⟨fun cb => (barC cb.1, 0, cb.2), fun _ _ h => Prod.ext (congrArg (fun t : GSem nD τ sig × ℕ × Bool => t.1.1.1) h) (congrArg (fun t : GSem nD τ sig × ℕ × Bool => t.2.2) h)⟩
def scTok : Dev nD × Fin 16 ↪ GSem nD τ sig × ℕ × Bool :=
  ⟨fun cj => (scEmb cj, 0, false), fun _ _ h => scEmb.injective (congrArg (fun t : GSem nD τ sig × ℕ × Bool => t.1) h)⟩
def talkToks : Finset (GSem nD τ sig × ℕ × Bool) := Finset.univ.map barTok ∪ Finset.univ.map scTok

theorem disjoint_toks : Disjoint (Finset.univ.map barTok) (Finset.univ.map scTok) := by
  rw [Finset.disjoint_left]
  rintro g h₁ h₂
  obtain ⟨c, -, rfl⟩ := Finset.mem_map.mp h₁
  obtain ⟨ck, -, h⟩ := Finset.mem_map.mp h₂
  exact dma_ne _ _ (congrArg (fun t : GSem nD τ sig × ℕ × Bool => t.1.2) h)
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact dma_ne _ _ (congrArg (fun g : GSem nD τ sig => g.2) h)

/-- Where copy `k` goes, as a rotation of the (device, copy) pairs. -/
def spin : Dev nD × Fin 8 ≃ Dev nD × Fin 8 where
  toFun ck := (tgt ck.2 ck.1, ck.2)
  invFun ck := (if ck.2.val % 2 = 0 then prv ck.1 else nxt ck.1, ck.2)
  left_inv := by rintro ⟨c, k⟩; revert c k; decide
  right_inv := by rintro ⟨c, k⟩; revert c k; decide

/-- The tokens device `c` pays with. -/
def payToks (c : Dev nD) : sProp 𝕄 :=
  iprop((dutyTok ER (barC (prv c)) 0 true ∗ dutyTok ER (barC (nxt c)) 0 false)
    ∗ (bigSep Finset.univ fun k : Fin 8 => dutyTok ER (sC k c) 0 false) ∗ bigSep Finset.univ fun k : Fin 8 => dutyTok ER (rC k (tgt k c)) 0 false)

theorem toks_deal : bigSep talkToks (fun x => (dutyTok ER x.1 x.2.1 x.2.2 : sProp 𝕄)) ⊢ bigSep Finset.univ fun c : Dev nD => payToks c := by
  have hb : (bigSep (Finset.univ.map barTok) fun x => (dutyTok ER x.1 x.2.1 x.2.2 : sProp 𝕄))
      ⊢ bigSep Finset.univ fun c : Dev nD => iprop(dutyTok ER (barC (prv c)) 0 true ∗ dutyTok ER (barC (nxt c)) 0 false) := by
    rw [BI.bigSep_map, bigSep_univ_prod]
    show (bigSep Finset.univ fun c : Dev nD => bigSep Finset.univ fun b : Bool => (dutyTok ER (barC c) 0 b : sProp 𝕄)) ⊢ _
    rw [bigSep_congr (s := Finset.univ) (Ψ := fun c : Dev nD => (iprop(dutyTok ER (barC c) 0 true ∗ dutyTok ER (barC c) 0 false) : sProp 𝕄)) (fun c _ =>
        bigSep_univ_eq_bigSepL [true, false] (by decide) (by decide) _),
      bigSep_sep', bigSep_sep', bigSep_univ_equiv ring.symm (fun c : Dev nD => (dutyTok ER (barC c) 0 true : sProp 𝕄)),
      bigSep_univ_equiv ring (fun c : Dev nD => (dutyTok ER (barC c) 0 false : sProp 𝕄))]
    exact Entails.rfl
  have hs : (bigSep (Finset.univ.map scTok) fun x => (dutyTok ER x.1 x.2.1 x.2.2 : sProp 𝕄))
      ⊢ bigSep Finset.univ fun c : Dev nD => iprop((bigSep Finset.univ fun k : Fin 8 => dutyTok ER (sC k c) 0 false) ∗ bigSep Finset.univ fun k : Fin 8 => dutyTok ER (rC k (tgt k c)) 0 false) := by
    rw [BI.bigSep_map, bigSep_univ_prod, bigSep_sep',
      ← bigSep_univ_prod (fun ck : Dev nD × Fin 8 => (dutyTok ER (rC ck.2 (tgt ck.2 ck.1)) 0 false : sProp 𝕄)),
      show (bigSep Finset.univ fun ck : Dev nD × Fin 8 => (dutyTok ER (rC ck.2 (tgt ck.2 ck.1)) 0 false : sProp 𝕄)) = bigSep Finset.univ fun ck : Dev nD × Fin 8 => dutyTok ER (rC ck.2 ck.1) 0 false
        from (bigSep_univ_equiv spin (fun ck : Dev nD × Fin 8 => (dutyTok ER (rC ck.2 ck.1) 0 false : sProp 𝕄))).symm,
      bigSep_univ_prod (fun ck : Dev nD × Fin 8 => (dutyTok ER (rC ck.2 ck.1) 0 false : sProp 𝕄)), ← bigSep_sep']
    exact bigSep_mono fun c _ => sixteen (fun g => (dutyTok ER g 0 false : sProp 𝕄)) c
  unfold talkToks payToks
  rw [show (bigSep (Finset.univ.map barTok ∪ Finset.univ.map scTok) fun x => (dutyTok ER x.1 x.2.1 x.2.2 : sProp 𝕄))
    = iprop((bigSep (Finset.univ.map barTok) fun x => dutyTok ER x.1 x.2.1 x.2.2) ∗ bigSep (Finset.univ.map scTok) fun x => dutyTok ER x.1 x.2.1 x.2.2) from bigSep_union disjoint_toks, bigSep_sep']
  iintro ⟨H1, H2⟩
  isplitl [H1]
  · iapply hb; iexact H1
  iapply hs; iexact H2

/-! ## The credits -/

theorem owed_sum (g : GSem nD τ sig) (n : ℕ) (h : ∑ d : Dev nD, ((pays d).map fun p => if g = p.1 then p.2 else 0).sum = n) :
    tallyOn g (launchCredit (Pipeline.owing fun c => Ow c 0) 0 g) = (tallyAt g () n : CellTallies nD τ sig Unit) := by
  unfold tallyAt; refine congrArg _ (Finsupp.ext fun u => ?_); cases u
  rw [Pipeline.launchCredit_owing, Finsupp.single_eq_same, ← h]
  exact Finset.sum_congr rfl fun d _ => owedL_apply (pays d) g

theorem sum_bar (c : Dev nD) : ∑ d : Dev nD, ((pays d).map fun p => if barC c = p.1 then p.2 else 0).sum = 2 := by revert c; decide +kernel
theorem sum_recv (k : Fin 8) (c : Dev nD) : ∑ d : Dev nD, ((pays d).map fun p => if rC k c = p.1 then p.2 else 0).sum = amt k := by
  revert k c; decide +kernel

def rEmb : Fin 8 ↪ SemLoc sig := ⟨fun k => .dma (rS k), fun a b h => Fin.ext (by
  have : 10 + a.val = 10 + b.val := congrArg Fin.val (SemLoc.dma.inj h)
  omega)⟩

theorem creds (c : Dev nD) : (Pipeline.launchCred (fun c => Ow c 0) c : sProp 𝕄)
    ⊢ iprop(cred (tallyAt (barC c) () 2) ∗ bigSep Finset.univ fun k : Fin 8 => cred (tallyAt (rC k c) () (amt k))) := by
  unfold Pipeline.launchCred
  rw [bigSep_univ_at _ (SemLoc.reg barS), owed_sum (barC c) 2 (sum_bar c)]
  refine sep_mono_right ?_
  refine (bigSep_subset (t := Finset.univ.map rEmb) fun sm hsm => ?_).trans ?_
  · obtain ⟨k, -, rfl⟩ := Finset.mem_map.mp hsm
    exact Finset.mem_erase.mpr ⟨fun h => dma_ne _ _ h, Finset.mem_univ _⟩
  rw [BI.bigSep_map]
  exact bigSep_mono fun k _ => Entails.of_eq (congrArg cred (owed_sum (rC k c) (amt k) (sum_recv k c)))

/-! ## Everything of one device -/

/-- What device `c` keeps until the kernel starts, beside its buffers. -/
def barL (c : Dev nD) : sProp 𝕄 :=
  iprop(atPos ER (barC c) 0 ∅ 0 ∗ cred (tallyAt (barC c) () 2) ∗ dutyTok ER (barC (prv c)) 0 true ∗ dutyTok ER (barC (nxt c)) 0 false)
def Tk (c : Dev nD) : sProp 𝕄 := iprop(∃ κ, records m κ ∗ barL c ∗ bigSep Finset.univ fun k : Fin 8 => kL k c)

/-- The launch element: the pipeline library's at its staging cells; the protocol's. -/
abbrev EP : Emb (UR sig nD τ) 𝕄 := embL
abbrev adm : (p : Fin 1) → (pcfgs (F := F) p).Adm := fun p => (cfgs p).toPCfg_adm
def u₀ : UU := (initOf (Pipeline.cells cfgs cellOf_inj) (Pipeline.launchToks cfgs cellOf_inj), (launchOf barCells scCells talkToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The protocol's element is parked on device 0 until the step that has every device's counters. -/
def G (c : Dev nD) : sProp 𝕄 := if c = 0 then BI.own (ER (launchOf barCells scCells talkToks)) else iprop(emp)
theorem bigSep_G : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem deal_one (κ : GSem nD τ sig → ℕ) (c : Dev nD) :
    iprop(records m κ ∗ ((atPos ER (barC c) 0 ∅ 0 ∗ bigSep Finset.univ fun j : Fin 16 => openTok ER ((c : Thread nD τ), osem (j.castLE (by decide))))
      ∗ payToks c ∗ Pipeline.launchCred (fun c => Ow c 0) c)) ⊢ Tk m c := by
  unfold payToks Tk barL kL
  iintro ⟨#HR, ⟨Hat, Hop⟩, ⟨⟨Hb1, Hb2⟩, Hts, Htr⟩, Hcr⟩
  ihave Hop := (sixteen (fun g => (openTok ER g : sProp 𝕄)) c) $$ Hop
  icases Hop with ⟨Hos, Hor⟩
  ihave Hcr := (creds (F := F) c) $$ Hcr
  icases Hcr with ⟨Hc, Hcs⟩
  iexists κ
  isplitr; · iexact HR
  isplitl [Hat Hc Hb1 Hb2]
  · isplitl [Hat]; · iexact Hat
    isplitl [Hc]; · iexact Hc
    isplitl [Hb1] <;> iassumption
  iapply pair
  isplitl [Hos Hor]
  · iapply pair; isplitl [Hos] <;> iassumption
  iapply pair; isplitl [Hts]; · iexact Hts
  iapply pair; isplitl [Htr] <;> iassumption

/-- The step that allocates every cell and deals the tokens. -/
theorem deal_all :
    iprop((bigSep Finset.univ fun c : Dev nD => semVal (barC c) 0) ∗ (bigSep Finset.univ fun c : Dev nD => Pipeline.launchCred (fun c => Ow c 0) c)
        ∗ bigSep Finset.univ (G (F := F)))
      ⊢ (|={Set.univ}=> bigSep Finset.univ fun c : Dev nD => Tk m c : sProp 𝕄) := by
  have hv : (bigSep Finset.univ fun c : Dev nD => (semVal (barC c) 0 : sProp 𝕄)) ⊢ bigSep barCells fun g => (semVal g 0 : sProp 𝕄) :=
    Entails.of_eq (BI.bigSep_map (s := Finset.univ) barEmb (Φ := fun g : GSem nD τ sig => (semVal g 0 : sProp 𝕄))).symm
  have hat : (bigSep barCells fun g => (atPos ER g 0 ∅ 0 : sProp 𝕄)) ⊢ bigSep Finset.univ fun c : Dev nD => (atPos ER (barC c) 0 ∅ 0 : sProp 𝕄) :=
    Entails.of_eq (BI.bigSep_map (s := Finset.univ) barEmb (Φ := fun g : GSem nD τ sig => (atPos ER g 0 ∅ 0 : sProp 𝕄)))
  have hop : (bigSep scCells fun g => (openTok ER g : sProp 𝕄))
      ⊢ bigSep Finset.univ fun c : Dev nD => bigSep Finset.univ fun j : Fin 16 => (openTok ER ((c : Thread nD τ), osem (j.castLE (by decide))) : sProp 𝕄) :=
    Entails.of_eq (by rw [BI.bigSep_map, bigSep_univ_prod]; rfl)
  rw [bigSep_G]
  iintro ⟨Hv, Hcr, Hu⟩
  imod (Rounds.fund_launch ER (talkRd m) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) fun c _ => deal_one m κ c)
  isplitr
  · unfold records
    isplitr; · iexact Hinv
    iexact Hr
  iapply pair
  isplitl [Hat Hopen]
  · iapply pair
    isplitl [Hat]; · iapply hat $$ Hat
    iapply hop $$ Hopen
  iapply pair
  isplitl [Htok]; · iapply (toks_deal (F := F)) $$ Htok
  iexact Hcr

end Cert.KProof

end
-- ==== Proof.Region.lean ====
module

public import proofs.«01_k».proof.Proof.Deal

/-! The kernel's region: what it is entered with and left with, and its body as the region's one point. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The buffers -/

def bufs : Finset (DevRef τ sig) := (StableHlo.tcRefs τ sig).filter fun b => ¬ b.isScoped
abbrev arrs : Finset (DevRef τ sig) := Pipeline.arrRefs (τ := τ) spec0
/-- The unscoped buffers no window reads or writes. -/
def rest : Finset (DevRef τ sig) := bufs \ arrs

abbrev V₀ (c : Dev nD) : Valuation τ sig (Elt F) := fun b => m (c, b)
/-- At the region's entry, and at its end. -/
abbrev W₁ (c : Dev nD) : Valuation τ sig (Elt F) := StableHlo.after hostOps0 (V₀ m c)
/-- The result. -/
abbrev res (c : Dev nD) : S1x1024x1024.Idx → Elt F .f32 := outN m c (V m c main_v1) 3
def W₂ (c : Dev nD) : Valuation τ sig (Elt F) := Function.update (W₁ m c) (Proc.devRef .tc main_v4) (res m c)

theorem W₂_out (c : Dev nD) : W₂ m c main_v4 = res m c := Function.update_self ..
theorem W₂_ne (c : Dev nD) (b : Ref sig .tc) (h : b ≠ main_v4) : W₂ m c b = V m c b :=
  Function.update_of_ne (StableHlo.devRef_ne_of_ne h) ..

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arrs_sub : arrs ⊆ bufs := by decide
theorem held_bufs (c : Dev nD) (W : Valuation τ sig (Elt F)) : (StableHlo.held (c : Thread nD τ) bufs W : sProp 𝕄)
    = iprop(StableHlo.held (c : Thread nD τ) arrs W ∗ StableHlo.held (c : Thread nD τ) rest W) := StableHlo.held_sub_split (c : Thread nD τ) arrs_sub W

abbrev pt (c : Dev nD) (b : Ref sig .tc) (f : Buf (Elt F) ((c : Thread nD τ).loc b)) : sProp 𝕄 := ((c : Thread nD τ).loc b) ↦{fullShare} f

theorem held_arrs (c : Dev nD) (W : Valuation τ sig (Elt F)) : (StableHlo.held (c : Thread nD τ) arrs W : sProp 𝕄)
    = iprop(pt c main_v1 (W main_v1) ∗ pt c main_v4 (W main_v4)) := by
  unfold StableHlo.held
  rw [bigSep_eq_bigSepL_of_eq [Proc.devRef .tc main_v1, Proc.devRef .tc main_v4] (by decide) (by decide)]
  rfl
theorem held_rest (c : Dev nD) (W : Valuation τ sig (Elt F)) : (StableHlo.held (c : Thread nD τ) rest W : sProp 𝕄)
    = iprop(pt c main_arg0 (W main_arg0) ∗ pt c main_arg1 (W main_arg1) ∗ pt c main_arg2 (W main_arg2) ∗ pt c main_arg3 (W main_arg3) ∗ pt c main_arg4 (W main_arg4) ∗ pt c main_v2 (W main_v2) ∗ pt c main_v3 (W main_v3)) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v2, Proc.devRef .tc main_v3] (by decide) (by decide)]
  rfl

theorem held_rest_end (c : Dev nD) : (StableHlo.held (c : Thread nD τ) rest (W₂ m c) : sProp 𝕄) = StableHlo.held (c : Thread nD τ) rest (W₁ m c) := by
  rw [held_rest, held_rest, W₂_ne m c main_arg0 (by decide), W₂_ne m c main_arg1 (by decide), W₂_ne m c main_arg2 (by decide), W₂_ne m c main_arg3 (by decide), W₂_ne m c main_arg4 (by decide), W₂_ne m c main_v2 (by decide), W₂_ne m c main_v3 (by decide)]

/-! ## The region's data -/

/-- What enters the region's invariant beside the buffers. -/
def Xk (c : Dev nD) : sProp 𝕄 :=
  iprop((∃ κ, records m κ ∗ barL c ∗ bigSep Finset.univ fun k : Fin 8 => kG k c)
    ∗ (semVal ((c : Thread nD τ), sd 18) 0 ∗ semVal ((c : Thread nD τ), sd 19) 0 ∗ semVal ((c : Thread nD τ), sd 20) 0
      ∗ semVal ((c : Thread nD τ), sd 21) 0 ∗ semVal ((c : Thread nD τ), sd 22) 0 ∗ semVal ((c : Thread nD τ), sd 23) 0) ∗ levAts L lv)
abbrev scr (c : Dev nD) : sProp 𝕄 := Pipeline.scopedRest spec0 c
def Φ₀ (c : Dev nD) : sProp 𝕄 := iprop(scr c ∗ (∃ r, prngReg c r) ∗ StableHlo.held (c : Thread nD τ) rest (W₁ m c) ∗ Xk m c)
def Φ₁ (c : Dev nD) : sProp 𝕄 :=
  iprop(scr c ∗ (∃ r, prngReg c r) ∗ StableHlo.held (c : Thread nD τ) rest (W₁ m c) ∗ Pipeline.ownSems0 osem c ∗ semVal (barC c) 0)

def dat0 (c : Dev nD) : Dat τ (Elt F) Unit ℕ UU ℕ cfg0 c where
  A w := V m c (Pipeline.arrRef spec0 w)
  after w t := match w with
    | 0 => (V m c main_v1 : S1x1024x1024.Idx → Elt F .bf16)
    | 1 => res m c
  Φ t := if t.val = 0 then Φ₀ m c else Φ₁ m c
  q _ := fullShare
  owed t := if t.val = 0 then Ow c 0 else 0

def pdats : (p : Fin 1) → (c : Dev nD) → Dat τ (Elt F) Unit ℕ UU ℕ (cfgs p) c := fun | 0 => dat0 m

theorem owed_first (c : Dev nD) : (dat0 m c).owed 0 = Ow c 0 := by
  show (if ((0 : Fin (cfg0.N + 1)).val = 0) then Ow c 0 else 0) = _; exact if_pos rfl
theorem owed_last (c : Dev nD) : (dat0 m c).owed (Fin.last _) = 0 := by
  show (if (Fin.last cfg0.N).val = 0 then Ow c 0 else 0) = _; exact if_neg (by rw [Fin.val_last, show cfg0.N = 1 from N_0]; decide)
theorem Φ_first (c : Dev nD) : (dat0 m c).Φ 0 = Φ₀ m c := by
  show (if ((0 : Fin (cfg0.N + 1)).val = 0) then Φ₀ m c else Φ₁ m c) = _; exact if_pos rfl
theorem Φ_last (c : Dev nD) : (dat0 m c).Φ (Fin.last _) = Φ₁ m c := by
  show (if (Fin.last cfg0.N).val = 0 then Φ₀ m c else Φ₁ m c) = _; exact if_neg (by rw [Fin.val_last, show cfg0.N = 1 from N_0]; decide)
theorem share_eq (c : Dev nD) (w : Fin cfg0.W) : (dat0 m c).share w = fullShare := by unfold Dat.share; split <;> rfl

/-- A window's one block is its whole array. -/
theorem blk_read0 (t : Fin cfg0.N) (f : S1x1024x1024.Idx → Elt F .bf16) : ((cfg0.win 0).blk t).view.read (Elt F) f = f := by
  funext i
  refine congrArg f (funext fun a => Fin.ext ?_)
  fin_cases a <;> (show 0 * _ + 1 * (i _).val = _; rw [Nat.zero_mul, Nat.zero_add, Nat.one_mul])
theorem blk_read1 (t : Fin cfg0.N) (f : S1x1024x1024.Idx → Elt F .f32) : ((cfg0.win 1).blk t).view.read (Elt F) f = f := by
  funext i
  refine congrArg f (funext fun a => Fin.ext ?_)
  fin_cases a <;> (show 0 * _ + 1 * (i _).val = _; rw [Nat.zero_mul, Nat.zero_add, Nat.one_mul])

theorem before_x (c : Dev nD) (t : Fin cfg0.N) (d) : (dat0 m c).before 0 t d = (V m c main_v1 : S1x1024x1024.Idx → Elt F .bf16) :=
  ((dat0 m c).before_in_eq_fetched 0 rfl (fun _ => rfl) (fun _ _ _ => rfl) (fun t => (blk_read0 t (V m c main_v1)).symm) t d).trans
    (blk_read0 t (V m c main_v1))

end Cert.KProof

end
-- ==== Proof.Body.lean ====
module

public import proofs.«01_k».proof.Proof.Region

/-! The kernel's body is the region's one point. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

theorem whole_owns (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ pt c b f) := by
  unfold owns; simp only [Memref.view_whole, View.read_whole, View.set_whole]

theorem owes_in (c : Dev nD) (t : Fin (cfg0.N + 1)) (O : CellTallies nD τ sig Unit) (h : (dat0 m c).owed t = O) (W : Waits sig Unit) :
    (owes (c : Thread nD τ) O W : sProp 𝕄) ⊢ (dat0 m c).owesAt () t := by
  unfold Dat.owesAt Pipeline.owesWithin Dat.bound; rw [h]
  iintro H; iexists W; isplitr
  · ipureintro; exact fun _ _ => Or.inl trivial
  iexact H
theorem owes_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, H⟩; iexists W; iexact H

theorem owed_at (c : Dev nD) (t : Fin (cfg0.N + 1)) : (dat0 m c).owed t = if t.val = 0 then Ow c 0 else 0 := rfl
theorem Φ_at (c : Dev nD) (t : Fin (cfg0.N + 1)) : (dat0 m c).Φ t = if t.val = 0 then Φ₀ m c else Φ₁ m c := rfl
theorem owed_before (c : Dev nD) : (dat0 m c).owed t0_0.castSucc = Ow c 0 := (owed_at m c _).trans (if_pos rfl)
theorem owed_after (c : Dev nD) : (dat0 m c).owed t0_0.succ = Ow c 10 := (owed_at m c _).trans (if_neg (Nat.succ_ne_zero 0))
theorem Φ_before (c : Dev nD) : (dat0 m c).Φ t0_0.castSucc = Φ₀ m c := (Φ_at m c _).trans (if_pos rfl)
theorem Φ_after (c : Dev nD) : (dat0 m c).Φ t0_0.succ = Φ₁ m c := (Φ_at m c _).trans (if_neg (Nat.succ_ne_zero 0))

/-- The body's own buffers, whole at some contents, are the region's scratch. -/
theorem scr_eq (c : Dev nD) : (scr c : sProp 𝕄) = iprop((∃ f, pt c cc0_scratch0 f) ∗ (∃ f, pt c cc0_scratch1 f) ∗ (∃ f, pt c cc0_scratch2 f)
    ∗ (∃ f, pt c cc0_scratch3 f) ∗ (∃ f, pt c cc0_scratch4 f) ∗ (∃ f, pt c cc0_scratch5 f)) := scopedRest0_eq c

/-- What the point is entered with, and what it leaves. -/
def bodyPre (c : Dev nD) : sProp 𝕄 :=
  iprop(Φ₀ m c ∗ (dat0 m c).owesAt () t0_0.castSucc
    ∗ (∃ d, ∃ f : Buf (Elt F) ((c : Thread nD τ).loc cc0_stg0_0), ⌜f = (dat0 m c).before (0 : Fin 2) t0_0 d⌝ ∗ pt c cc0_stg0_0 f)
    ∗ (∃ d, ∃ f : Buf (Elt F) ((c : Thread nD τ).loc cc0_stg1_0), ⌜f = (dat0 m c).before (1 : Fin 2) t0_0 d⌝ ∗ pt c cc0_stg1_0 f))
def bodyPost (c : Dev nD) : sProp 𝕄 :=
  iprop(Φ₁ m c ∗ (dat0 m c).owesAt () t0_0.succ
    ∗ (∃ f : Buf (Elt F) ((c : Thread nD τ).loc cc0_stg0_0), ⌜f = (dat0 m c).after (0 : Fin 2) t0_0⌝ ∗ pt c cc0_stg0_0 f)
    ∗ (∃ f : Buf (Elt F) ((c : Thread nD τ).loc cc0_stg1_0), ⌜f = (dat0 m c).after (1 : Fin 2) t0_0⌝ ∗ pt c cc0_stg1_0 f))

/-- What the point leaves, of what the body leaves; the five arguments pass it by. -/
theorem post_leaves (c : Dev nD) :
    iprop(((∃ r, prngReg c r) ∗ pt c main_arg0 (W₁ m c main_arg0) ∗ pt c main_arg1 (W₁ m c main_arg1) ∗ pt c main_arg4 (W₁ m c main_arg4))
      ∗ Post m c (V m c main_v1)) ⊢ bodyPost m c := by
  unfold Post bodyPost Φ₁
  rw [scr_eq, held_rest]
  iintro ⟨⟨Hp, Ha0, Ha1, Ha4⟩, Hx, Ho, Hwq, Hwo, HK, HV, Hc, Hkb, Hvb, Hkh, Hvh, Hct, Hbar, Hown, %W, HO⟩
  isplitr [HO Hx Ho]
  · isplitl [Hc Hkb Hvb Hkh Hvh Hct]
    · isplitl [Hc]; · iexact Hc
      isplitl [Hkb]; · iexact Hkb
      isplitl [Hvb]; · iexact Hvb
      isplitl [Hkh]; · iexact Hkh
      isplitl [Hvh] <;> iassumption
    isplitl [Hp]; · iexact Hp
    isplitr [Hbar Hown]
    · isplitl [Ha0]; · iexact Ha0
      isplitl [Ha1]; · iexact Ha1
      isplitl [HK]; · iexact HK
      isplitl [HV]; · iexact HV
      isplitl [Ha4]; · iexact Ha4
      isplitl [Hwq] <;> iassumption
    isplitl [Hown] <;> iassumption
  isplitl [HO]
  · iapply (owes_in m c t0_0.succ (Ow c 10) (owed_after m c) W); iexact HO
  isplitl [Hx]
  · iexists _; isplitr
    · ipureintro; rfl
    iexact Hx
  iexists _; isplitr
  · ipureintro; rfl
  iexact Ho

theorem body_point (c : Dev nD) : bodyPre m c ⊢ wp frame (wpE (defs₀ (F := F)) 𝒱₀ (c : Thread nD τ) none) Set.univ (body (F := F)) (fun _ => bodyPost m c) := by
  unfold bodyPre Φ₀ Xk barL
  rw [scr_eq, held_rest, eight]
  iintro ⟨⟨⟨⟨%fc, Hc⟩, ⟨%fkb, Hkb⟩, ⟨%fvb, Hvb⟩, ⟨%fkh, Hkh⟩, ⟨%fvh, Hvh⟩, ⟨%fct, Hct⟩⟩, Hp, ⟨Ha0, Ha1, HK, HV, Ha4, Hwq, Hwo⟩,
    ⟨%κ, #HR, Hbar, Hk0, Hk1, Hk2, Hk3, Hk4, Hk5, Hk6, Hk7⟩, ⟨Hs18, Hs19, Hs20, Hs21, Hs22, Hs23⟩, #Hlev⟩, HO, ⟨%d0, %f0, %h0, Hx⟩, ⟨%d1, %fo, %h1, Ho⟩⟩
  rw [before_x] at h0
  subst h0
  ihave HO := (owes_out m c t0_0.castSucc (Ow c 0) (owed_before m c)) $$ HO
  icases HO with ⟨%W, HO⟩
  iapply (run_all m c κ (V m c main_v1) W fo fc fkb fvb fkh fvh fct (fun _ => bodyPost m c))
  unfold Pre
  isplitr; · iexact HR
  isplitr; · iexact Hlev
  isplitl [Hx]; · iexact Hx
  isplitl [Ho]; · iexact Ho
  isplitl [Hwq]; · iexact Hwq
  isplitl [Hwo]; · iexact Hwo
  isplitl [HK]; · iexact HK
  isplitl [HV]; · iexact HV
  isplitl [Hc]; · iexact Hc
  isplitl [Hkb]; · iexact Hkb
  isplitl [Hvb]; · iexact Hvb
  isplitl [Hkh]; · iexact Hkh
  isplitl [Hvh]; · iexact Hvh
  isplitl [Hct]; · iexact Hct
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [HO]; · iexact HO
  isplitl [Hbar]; · iexact Hbar
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  iintro HP
  iapply (post_leaves m c)
  isplitr [HP]
  · isplitl [Hp]; · iexact Hp
    isplitl [Ha0]; · iexact Ha0
    isplitl [Ha1] <;> iassumption
  iexact HP

set_option maxRecDepth 40000 in
theorem body_obligation (c : Dev nD) : BodyObligation (dat0 m c) (defs₀ (F := F)) 𝒱₀ () Set.univ := fun t => by
  rw [fin_N0 t]
  rw [bigSep_W0, bigSep_W0]
  simp only [whole_owns]
  rw [Φ_before, Φ_after]
  exact body_point m c

end Cert.KProof

end
-- ==== Proof.Launch.lean ====
module

public import proofs.«01_k».proof.Proof.Body

/-! The region, the launch, and the run of the whole program. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The region -/

theorem open_Tk (c : Dev nD) : iprop(Tk m c ∗ Pipeline.ownSems0 osem c ∗ levAts L lv) ⊢ (|={Set.univ}=> Xk m c : sProp 𝕄) := by
  rw [ownSems_eq]
  unfold Tk Xk
  iintro ⟨⟨%κ, #HR, Hbar, Hk⟩, ⟨S0, S1, S2, S3, S4, S5, S6, S7, R0, R1, R2, R3, R4, R5, R6, R7, D⟩, #Hlev⟩
  imod (open_all m κ c) $$ [Hk S0 S1 S2 S3 S4 S5 S6 S7 R0 R1 R2 R3 R4 R5 R6 R7] with HG
  · isplitr; · iexact HR
    iapply pair; isplitl [Hk]; · iexact Hk
    iapply pair
    rw [eight, eight]
    isplitr [R0 R1 R2 R3 R4 R5 R6 R7]
    · isplitl [S0]; · iexact S0
      isplitl [S1]; · iexact S1
      isplitl [S2]; · iexact S2
      isplitl [S3]; · iexact S3
      isplitl [S4]; · iexact S4
      isplitl [S5]; · iexact S5
      isplitl [S6] <;> iassumption
    isplitl [R0]; · iexact R0
    isplitl [R1]; · iexact R1
    isplitl [R2]; · iexact R2
    isplitl [R3]; · iexact R3
    isplitl [R4]; · iexact R4
    isplitl [R5]; · iexact R5
    isplitl [R6] <;> iassumption
  imodintro
  isplitl [Hbar HG]
  · iexists κ
    isplitr; · iexact HR
    isplitl [Hbar] <;> iassumption
  isplitl [D]; · iexact D
  iexact Hlev

theorem enter (c : Dev nD) : iprop(Pipeline.scopedRest spec0 c ∗ (∃ r, prngReg c r) ∗ StableHlo.held (c : Thread nD τ) rest (W₁ m c) ∗ Xk m c)
    ⊢ (dat0 m c).Φ 0 := by
  rw [Φ_first]; exact Entails.rfl
theorem leave (c : Dev nD) : (dat0 m c).Φ (Fin.last _)
    ⊢ iprop(Pipeline.scopedRest spec0 c ∗ (∃ r, prngReg c r) ∗ StableHlo.held (c : Thread nD τ) rest (W₂ m c) ∗ Pipeline.ownSems0 osem c ∗ semVal (barC c) 0) := by
  rw [Φ_last, held_rest_end]; exact Entails.rfl

theorem cut (c : Dev nD) (t : Fin (cfg0.N + 1)) (g : GSem nD τ sig) (u : Unit) (h : 0 < (dat0 m c).owed t g u) : u ∈ L g ∧ (0 : ℕ) < lv g u := by
  rw [owed_at] at h
  split at h
  · exact Ow_lvl c 0 0 (lvls_pos 0) g u h
  · exact absurd h (Nat.lt_irrefl 0)

theorem arr_first (c : Dev nD) (w : Fin cfg0.W) : (dat0 m c).arrAt w 0 = W₁ m c (Proc.devRef .tc (Pipeline.arrRef spec0 w)) := rfl
theorem arr_last0 (c : Dev nD) : (dat0 m c).arrAt 0 cfg0.N = W₂ m c (Proc.devRef .tc main_v1) :=
  ((dat0 m c).arrAt_in 0 rfl _).trans (W₂_ne m c main_v1 (by decide)).symm
theorem arr_last1 (c : Dev nD) : (dat0 m c).arrAt 1 cfg0.N = W₂ m c (Proc.devRef .tc main_v4) :=
  ((dat0 m c).arrAt_eq_of_cover 1 (res m c) (fun t _ => (blk_read1 t (res m c)).symm) fun i => ⟨t0_0, rfl, by
    have e : ((cfg0.win 1).blk t0_0).view.emb i = i := funext fun a => Fin.ext (by
      fin_cases a <;> (show 0 * _ + 1 * (i _).val = _; rw [Nat.zero_mul, Nat.zero_add, Nat.one_mul]))
    exact e ▸ View.emb_mem_set _ i⟩).trans (W₂_out m c).symm

theorem kit : Pipeline.PLaunchFacts (nD := nD) (τ := τ) (pcfgs (F := F)) 0 := launch0.toP

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    rest rest (Finset.Subset.refl _) kit rfl (fun c => (body_obligation m c).loose)
    (fun _ => 0) (fun c => Ow c 0) (fun c => (owed_first m c).trans (zero_add _).symm) (owed_last m) (fun _ => rfl) (share_eq m)
    (W₁ m) (W₂ m) (fun _ b hb => absurd hb (by rw [Finset.sdiff_self]; exact Finset.notMem_empty b))
    (Tk m) (fun c => semVal (barC c) 0) (Xk m) (fun c => semVal (barC c) 0) (open_Tk m) (enter m) (leave m)
    (fun c => by iintro H; imodintro; iexact H)
    (fun _ => 0)
    ⟨fun c w s => by rw [L_tc]; exact Finset.mem_singleton_self _, fun c w s => by fin_cases w <;> fin_cases s <;> exact Nat.le_refl 0, fun c t g u h => cut m c t g u h⟩
    (fun _ => iprop(emp))
    (fun c w => arr_first m c w) (fun c w => match w with | 0 => arr_last0 m c | 1 => arr_last1 m c)

theorem reg_pre (c : Dev nD) :
    iprop(StableHlo.held (c : Thread nD τ) bufs (W₁ m c) ∗ Tk m c ∗ (∃ r, prngReg c r) ∗ ∃ W, owes (c : Thread nD τ) (Ow c 0) W) ⊢ (reg0 m).pre c := by
  show _ ⊢ iprop(StableHlo.held (c : Thread nD τ) arrs (W₁ m c) ∗ (∃ r, prngReg c r)
    ∗ (StableHlo.held (c : Thread nD τ) rest (W₁ m c) ∗ emp) ∗ Tk m c ∗ ∃ Wd, owes (c : Thread nD τ) (0 + Ow c 0) Wd)
  rw [held_bufs, zero_add]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What is left on a device at the end. -/
abbrev Tₙ (c : Dev nD) : sProp 𝕄 := iprop(StableHlo.held (c : Thread nD τ) bufs (W₂ m c) ∗ semVal (barC c) 0)
theorem reg_post (c : Dev nD) : (reg0 m).post c ⊢ iprop(Tₙ m c ∗ ∃ W, owes (c : Thread nD τ) (0 : CellTallies nD τ sig Unit) W) := by
  show iprop(StableHlo.held (c : Thread nD τ) arrs (W₂ m c) ∗ (∃ r, prngReg c r)
    ∗ (StableHlo.held (c : Thread nD τ) rest (W₂ m c) ∗ emp) ∗ semVal (barC c) 0 ∗ ∃ Wd, owes (c : Thread nD τ) (0 : CellTallies nD τ sig Unit) Wd)
    ⊢ iprop((StableHlo.held (c : Thread nD τ) bufs (W₂ m c) ∗ semVal (barC c) 0) ∗ ∃ W, owes (c : Thread nD τ) (0 : CellTallies nD τ sig Unit) W)
  rw [held_bufs]
  iintro ⟨Ha, -, ⟨Hr, -⟩, Hb, HO⟩
  isplitr [HO]
  · isplitl [Ha Hr]
    · isplitl [Ha] <;> iassumption
    iexact Hb
  iexact HO

/-! ## The segments -/

abbrev Rd (c : Dev nD) : sProp 𝕄 := iprop(Tk m c ∗ (∃ r, prngReg c r) ∗ ∃ W, owes (c : Thread nD τ) (Ow c 0) W)
theorem ops_sub : ∀ op ∈ hostOps0 (F := F), op.bufs ⊆ bufs := by
  refine List.forall_iff_forall_mem.mp (show (hostOps0 : List (HloOp τ sig (Elt F))).Forall fun op => op.bufs ⊆ bufs from ⟨?_, ?_, ?_⟩)
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide
  · show ({Proc.devRef .tc main_arg4, Proc.devRef .tc main_v3} : Finset (DevRef τ sig)) ⊆ bufs; decide
def seg0 : Pipeline.HostSeg (Ix := Unit) (Name := ℕ) (U := UU) (Lvl := ℕ) (pcfgs (F := F)) defs₀ 𝒱₀ L lv :=
  Pipeline.HostSeg.ofOps _ _ _ _ _ bufs hostOps0 ops_sub (List.forall_iff_forall_mem.mp hostOps0_fresh) (V₀ m) (Rd m)
def segs : List (Pipeline.Seg (pcfgs (F := F)) adm (pdats m) () defs₀ 𝒱₀ L lv) := [.host (seg0 m), .region (reg0 m)]

/-! ## The launch -/

theorem unscoped_eq : ∀ sm : SemLoc sig, sm.isScoped .tc = false → sm = .reg barS := by decide
theorem unscopedSems0_eq (c : Dev nD) : (unscopedSems0 c : sProp 𝕄) = semVal (barC c) 0 := by
  unfold unscopedSems0
  rw [bigSep_eq_bigSepL_of_eq [SemLoc.reg barS] (by decide) (by decide)]
  rfl

abbrev T₀ (c : Dev nD) : sProp 𝕄 := iprop(StableHlo.held (c : Thread nD τ) bufs (V₀ m c) ∗ Rd m c)

theorem unpair {ι : Type} [Fintype ι] {Φ Ψ : ι → sProp 𝕄} :
    bigSep Finset.univ (fun c => iprop(Φ c ∗ Ψ c)) ⊢ iprop(bigSep Finset.univ Φ ∗ bigSep Finset.univ Ψ) :=
  Entails.of_eq (BI.bigSep_sep _ _ _)

theorem init :
    iprop((bigSep Finset.univ fun c : Dev nD => iprop(unscopedBufs c (fun b => m ((c : Thread nD τ).loc b)) ∗ unscopedSems0 c
          ∗ owes (c : Thread nD τ) (Ow c 0) ∅ ∗ Pipeline.launchCred (fun c => Ow c 0) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (Ow c 0) ∅ ∗ Pipeline.launchCred (fun c => Ow c 0) c ∗ prngReg c (ρ c) ∗ G c)
      ⊢ (iprop((StableHlo.held (c : Thread nD τ) bufs (V₀ m c) ∗ (∃ r, prngReg c r) ∗ ∃ W, owes (c : Thread nD τ) (Ow c 0) W)
        ∗ semVal (barC c) 0 ∗ Pipeline.launchCred (fun c => Ow c 0) c ∗ G c) : sProp 𝕄) := by
    rw [show unscopedBufs c (fun b => m ((c : Thread nD τ).loc b)) = StableHlo.held (c : Thread nD τ) bufs (V₀ m c) from unscopedBufs_held c (V₀ m c),
      unscopedSems0_eq]
    iintro ⟨Hh, Hs, HO, Hcr, Hp, HG⟩
    isplitl [Hh HO Hp]
    · isplitl [Hh]; · iexact Hh
      isplitl [Hp]; · iexists (ρ c); iexact Hp
      iexists ∅; iexact HO
    isplitl [Hs]; · iexact Hs
    isplitl [Hcr] <;> iassumption
  have hall (c : Dev nD) : iprop((StableHlo.held (c : Thread nD τ) bufs (V₀ m c) ∗ (∃ r, prngReg c r) ∗ ∃ W, owes (c : Thread nD τ) (Ow c 0) W) ∗ Tk m c)
      ⊢ T₀ m c := by
    iintro ⟨⟨Hh, Hp, HO⟩, HT⟩
    isplitl [Hh]; · iexact Hh
    isplitl [HT]; · iexact HT
    isplitl [Hp] <;> iassumption
  iintro ⟨H, -⟩
  ihave H := (show _ ⊢ (bigSep Finset.univ fun c : Dev nD => (iprop((StableHlo.held (c : Thread nD τ) bufs (V₀ m c) ∗ (∃ r, prngReg c r) ∗ ∃ W, owes (c : Thread nD τ) (Ow c 0) W)
        ∗ semVal (barC c) 0 ∗ Pipeline.launchCred (fun c => Ow c 0) c ∗ G c) : sProp 𝕄)) from bigSep_mono fun c _ => hcore c) $$ H
  ihave H := unpair $$ H; icases H with ⟨HB, H⟩
  ihave H := unpair $$ H; icases H with ⟨Hv, H⟩
  ihave H := unpair $$ H; icases H with ⟨Hcr, HG⟩
  imod (deal_all m) $$ [Hv Hcr HG] with HT
  · isplitl [Hv]; · iexact Hv
    isplitl [Hcr] <;> iassumption
  imodintro
  iapply (show _ ⊢ bigSep Finset.univ (T₀ m) from bigSep_mono fun c _ => hall c)
  iapply pair
  isplitl [HB] <;> iassumption

set_option backward.isDefEq.respectTransparency.types false in
/-- THE RUN: every weakly fair run of the program on the four devices ends; each device's result is `res`, its arguments are
    unchanged, and every semaphore counter is zero. -/
theorem run_main : θ_run defs (onTc (τ := τ) (main (F := F))) (s₀ m ρ)
    (fun r => (∀ c : Dev nD, r.2.mem ((c : Thread nD τ).loc main_v4) = res m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; rfl)
    (by simp only [segs, Pipeline.Seg.pipes_host, Pipeline.Seg.pipes_region, Pipeline.Seg.pipes_nil]; decide)
    (O₀ := fun c => Ow c 0) (hL := L_of_ne) (G := G) (u₀ := u₀)
    (hu₀ := by
      unfold u₀
      iintro Hu
      ihave H := (ownU_split _ _) $$ Hu
      icases H with ⟨HP, HX⟩
      imodintro
      isplitl [HP]; · iexact HP
      rw [bigSep_G]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_v4) = res m c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_arg4) = m ((c : Thread nD τ).loc main_arg4)) ∧ s.sem (barC c) = 0)
    (hfin := fun c s' => by
      dsimp only [Tₙ]; rw [held_bufs, held_arrs, held_rest_end, held_rest]
      iintro ⟨⟨⟨⟨-, Ho⟩, ⟨H0, H1, H2, H3, H4, -, -⟩⟩, Hb⟩, HSI⟩
      icombine HSI Ho gives %ho
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨(Buf.eq_of_forall_mem_univ ho).trans (W₂_out m c), (Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c), (Buf.eq_of_forall_mem_univ h4).trans (V_main_arg4 m c)⟩, by simpa using hb⟩
      iexact HSI)
    (hQ := fun s h hs => ⟨fun c => (h c).1,
      sem_eq_zero hs fun c sm hsm => by
        obtain rfl := unscoped_eq sm hsm
        exact (h c).2⟩)

end Cert.KProof

end
-- ==== Proof.Pays.lean ====
module

public import proofs.«01_k».proof.Proof.Gen.KernelIdeal.Skeleton
public import Idealize.ShloMosaic.Lib.Pointwise

/-! The kernel's arithmetic over the extended reals, read at an index: the scaled queries, one head's contexts, one slot's term
    of the output. -/

@[expose] public section

noncomputable section

set_option maxHeartbeats 4000000

namespace Cert.KPays

open Cert.KernelIdeal Cert.KernelIdeal.Gen
open Idealize.ShloMosaic

/-- The scale, as the rational that its word is. -/
def kap : EReal := Ideal.ofBits .f32 0x3DB504F3#32

theorem pay42_at (X : FVec Ideal S1024x1024 .bf16) (W : S1x1x1024x1024.Idx → Elt Ideal .bf16) (r n : Fin 1024) :
    k0_pay42 (F := Ideal) X (k0_pay41 W) (ix2 r n) = (∑ d : Fin 1024, X (ix2 r d) * W (ix4 0 0 d n)) * kap := by
  pointwise [k0_pay42, k0_pay41, kap]

theorem pay90_at (C : S1x1024x1024.Idx → Elt Ideal .bf16) (W : S1x1x1024x1024.Idx → Elt Ideal .bf16) (r n : Fin 1024) :
    k0_pay90 (F := Ideal) C W (ix2 r n) = ∑ k : Fin 1024, C (ix3 0 r k) * W (ix4 0 0 k n) := by
  pointwise [k0_pay90]

theorem pay89_at (Q : FVec Ideal S4x256x128 .bf16) (K V : S1x1024x128.Idx → Elt Ideal .f32) (p : Fin 4) (a : Fin 256) (e : Fin 128) :
    k0_pay89 (F := Ideal) Q K V (ix3 0 ⟨p.val * 256 + a.val, by omega⟩ e)
      = ∑ b : Fin 256, Ideal.div (Ideal.exp (∑ k : Fin 128, Q (ix3 p a k) * K (ix3 0 ⟨p.val * 256 + b.val, by omega⟩ k)))
          (∑ b' : Fin 256, Ideal.exp (∑ k : Fin 128, Q (ix3 p a k) * K (ix3 0 ⟨p.val * 256 + b'.val, by omega⟩ k)))
        * V (ix3 0 ⟨p.val * 256 + b.val, by omega⟩ e) := by
  pointwise [k0_pay89]

/-- One head's columns of the scaled queries, by class and row. -/
theorem cols_at (Q : FVec Ideal S1024x1024 .bf16) (h : Fin 8) (hs : S1024x1024.Slices ![0, 128 * h.val] S1024x128) (p : Fin 4) (a : Fin 256) (e : Fin 128) :
    shapeCast S4x256x128 (extractStridedSlice S1024x128 ![0, 128 * h.val] Q hs) shapeCasts_S1024x128_S4x256x128 (ix3 p a e)
      = Q (ix2 ⟨p.val * 256 + a.val, by omega⟩ ⟨128 * h.val + e.val, by omega⟩) := by
  pointwise

end Cert.KPays

end
-- ==== Proof.KVal.lean ====
module

public import proofs.«01_k».proof.Proof.Region
public import proofs.«01_k».proof.Proof.Pays

/-! The kernel's result over the extended reals, read at an index. -/

@[expose] public section

noncomputable section

set_option maxHeartbeats 4000000

namespace Cert.KProof

open Cert.KernelIdeal Cert.KernelIdeal.Gen
open Idealize.ShloMosaic Idealize.ShloMosaic.TcCoe Idealize.ShloMosaic.Tactic
open Cert.KPays

/-! ## The rows in block order -/

/-- Block `j` of the rows starts at row `64 (j / 4 + 4 (j % 4))`. -/
def blkOf (xb : S1x1024x1024.Idx → Elt Ideal .bf16) (j : Fin 16) : S64x1024.Idx → Elt Ideal .bf16 :=
  shapeCast S64x1024 (View.readAt (Elt Ideal) xM.view (Rect.unit (s := S1x1024x1024) ![0, 64 * (j.val / 4 + 4 * (j.val % 4)), 0] S1x64x1024.size (by revert j; decide)).toLoadRect xb)
    shapeCasts_S1x64x1024_S64x1024

theorem cast_at (f : S1x64x1024.Idx → EReal) (t : Fin 64) (d : Fin 1024) : shapeCast S64x1024 f shapeCasts_S1x64x1024_S64x1024 (ix2 t d) = f (ix3 0 t d) := by
  pointwise

theorem rdx_at (xb : S1x1024x1024.Idx → EReal) (o : ℕ) (h) (t : Fin 64) (d : Fin 1024) (r : Fin 1024) (hr : r.val = o + t.val) :
    View.readAt (Elt Ideal) xM.view (Rect.unit (s := S1x1024x1024) ![0, o, 0] S1x64x1024.size h).toLoadRect xb (ix3 0 t d) = xb (ix3 0 r d) := by
  refine congrArg xb (funext fun a => Fin.ext ?_)
  revert a
  refine Fin.cases ?_ (Fin.cases ?_ (Fin.cases ?_ (fun k => k.elim0)))
  · rfl
  · show o + 1 * t.val = r.val; omega
  · show 0 + 1 * d.val = d.val; omega

theorem blkOf_at (xb : S1x1024x1024.Idx → Elt Ideal .bf16) (j : Fin 16) (t : Fin 64) (d : Fin 1024) (r : Fin 1024)
    (hr : r.val = 64 * (j.val / 4 + 4 * (j.val % 4)) + t.val) : blkOf xb j (ix2 t d) = xb (ix3 0 r d) :=
  (cast_at _ t d).trans (rdx_at xb _ _ t d r hr)

theorem xpR_eq (xb : S1x1024x1024.Idx → Elt Ideal .bf16) :
    xpR xb = concatenate S1024x1024 0 (List.ofFn fun n : Fin 16 => (⟨S64x1024, blkOf xb n⟩ : (s : Shape) × (s.Idx → Elt Ideal .bf16)))
      concatenates_S64x1024_S64x1024_S64x1024_S64x1024_S64x1024_S64x1024_S64x1024_S64x1024_S64x1024_S64x1024_S64x1024_S64x1024_S64x1024_S64x1024_S64x1024_S64x1024_S1024x1024_d0 := rfl

theorem xpR_at (xb : S1x1024x1024.Idx → Elt Ideal .bf16) (r d : Fin 1024) : xpR xb (ix2 r d) = xb (ix3 0 (prF r) d) := by
  rw [xpR_eq]
  refine (concatenate_ofFn_apply (t := S1024x1024) (s₁ := S64x1024) 0 (blkOf xb) _ rfl 64 rfl (ix2 r d) ⟨r.val / 64, by omega⟩ rfl (ix2 ⟨r.val % 64, by omega⟩ d) rfl ?_).trans ?_
  · intro b hb
    match b with
    | ⟨0, _⟩ => exact absurd rfl hb
    | ⟨1, _⟩ => rfl
  · refine blkOf_at xb _ _ d (prF r) ?_
    show 64 * (r.val / 256 + 4 * (r.val % 256 / 64)) + r.val % 64 = 64 * (r.val / 64 / 4 + 4 * (r.val / 64 % 4)) + r.val % 64
    omega

/-! ## The other arrays -/

variable (m : (ℓ : Loc nD τ sig) → Buf (Elt Ideal) ℓ) (c : Dev nD)

theorem V_main_v1 : (V m c main_v1 : S1x1024x1024.Idx → EReal) = m ((c : Thread nD τ).loc main_arg0) := rfl
theorem V_main_v2 : (V m c main_v2 : S1024x1024.Idx → EReal) = m ((c : Thread nD τ).loc main_arg1) := rfl
theorem V_main_v3 : (V m c main_v3 : S1024x1024.Idx → EReal) = m ((c : Thread nD τ).loc main_arg4) := rfl

theorem rdc_at (f : S4x2x1024x1024.Idx → EReal) (s : Fin 4) (t : Fin 2) (h) (d n : Fin 1024) :
    View.readAt (Elt Ideal) cM.view (Rect.unit (s := S4x2x1024x1024) ![s.val, t.val, 0, 0] S1x1x1024x1024.size h).toLoadRect f (ix4 0 0 d n) = f (ix4 s t d n) := by
  refine congrArg f (funext fun a => Fin.ext ?_)
  revert a
  refine Fin.cases ?_ (Fin.cases ?_ (Fin.cases ?_ (Fin.cases ?_ (fun k => k.elim0))))
  · rfl
  · rfl
  · show 0 + 1 * d.val = d.val; omega
  · show 0 + 1 * n.val = n.val; omega

theorem wsl0_at (s : Fin 4) (d n : Fin 1024) : wsl m c s 0 (ix4 0 0 d n) = m (((peer c s : Dev nD) : Thread nD τ).loc main_arg1) (ix2 d n) := by
  refine (rdc_at (commF m c) s 0 _ d n).trans ?_
  rw [ix2_eq_valueIdx]
  exact if_pos rfl

theorem wsl1_at (s : Fin 4) (d n : Fin 1024) : wsl m c s 1 (ix4 0 0 d n) = m (((peer c s : Dev nD) : Thread nD τ).loc main_arg4) (ix2 d n) := by
  refine (rdc_at (commF m c) s 1 _ d n).trans ?_
  rw [ix2_eq_valueIdx]
  exact if_neg Nat.one_ne_zero

/-- Head `8 g + h` among all. -/
def hdF (g : Dev nD) (h : Fin 8) : Fin 32 := ⟨8 * g.val + h.val, by have e : g.val < 4 := g.isLt; omega⟩

theorem kh_at (src : S4x1024x32x128.Idx → EReal) (g : Dev nD) (h : Fin 8) (j : Fin 1024) (e : Fin 128) :
    View.readAt (Elt Ideal) khM.view (Rect.unit (s := S8x1024x128) ![h.val, 0, 0] S1x1024x128.size (by revert h; decide)).toLoadRect (hdC (F := Ideal) src c g) (ix3 0 j e)
      = src (ix4 c (prF j) (hdF g h) e) := by
  have e : View.readAt (Elt Ideal) khM.view (Rect.unit (s := S8x1024x128) ![h.val, 0, 0] S1x1024x128.size (by revert h; decide)).toLoadRect (hdC (F := Ideal) src c g) (ix3 0 j e)
      = hdC (F := Ideal) src c g (ix3 h j e) := by
    refine congrArg (hdC (F := Ideal) src c g) (funext fun a => Fin.ext ?_)
    revert a
    refine Fin.cases ?_ (Fin.cases ?_ (Fin.cases ?_ (fun k => k.elim0)))
    · rfl
    · show 0 + 1 * j.val = j.val; omega
    · show 0 + 1 * e.val = e.val; omega
  rw [e, ix4_eq_valueIdx]
  rfl

theorem vh_at (src : S4x1024x32x128.Idx → EReal) (g : Dev nD) (h : Fin 8) (j : Fin 1024) (e : Fin 128) :
    View.readAt (Elt Ideal) vhM.view (Rect.unit (s := S8x1024x128) ![h.val, 0, 0] S1x1024x128.size (by revert h; decide)).toLoadRect (hdC (F := Ideal) src c g) (ix3 0 j e)
      = src (ix4 c (prF j) (hdF g h) e) := kh_at c src g h j e

/-! ## The result -/

theorem colLt (h : Fin 8) (e : Fin 128) : 128 * h.val + e.val < 1024 := by omega
theorem rowLt (p : Fin 4) (a : Fin 256) : p.val * 256 + a.val < 1024 := by omega

/-- Query entry `128 h + e` of row `i`, scaled. -/
def kq (X Wq : Fin 1024 → Fin 1024 → EReal) (h : Fin 8) (i : Fin 1024) (e : Fin 128) : EReal :=
  (∑ d : Fin 1024, X i d * Wq d ⟨128 * h.val + e.val, by omega⟩) * kap
/-- The score of key `j` for row `i`. -/
def ksc (X Wq : Fin 1024 → Fin 1024 → EReal) (K : Fin 1024 → Fin 8 → Fin 128 → EReal) (h : Fin 8) (i j : Fin 1024) : EReal :=
  ∑ e : Fin 128, kq X Wq h i e * K j h e
/-- Key `b` of row class `p`. -/
def keyF (p : Fin 4) (b : Fin 256) : Fin 1024 := prF ⟨p.val * 256 + b.val, by omega⟩
/-- The context of row `i`, of class `p`. -/
def kctx (X Wq : Fin 1024 → Fin 1024 → EReal) (K W : Fin 1024 → Fin 8 → Fin 128 → EReal) (p : Fin 4) (h : Fin 8) (i : Fin 1024) (e : Fin 128) : EReal :=
  ∑ b : Fin 256, Ideal.div (Ideal.exp (ksc X Wq K h i (keyF p b))) (∑ b' : Fin 256, Ideal.exp (ksc X Wq K h i (keyF p b'))) * W (keyF p b) h e

def xA (i d : Fin 1024) : EReal := (m ((c : Thread nD τ).loc main_arg0) : S1x1024x1024.Idx → EReal) (ix3 0 i d)
def wA (g : Dev nD) (d n : Fin 1024) : EReal := (m ((g : Thread nD τ).loc main_arg1) : S1024x1024.Idx → EReal) (ix2 d n)
def oA (g : Dev nD) (d n : Fin 1024) : EReal := (m ((g : Thread nD τ).loc main_arg4) : S1024x1024.Idx → EReal) (ix2 d n)
def kA (g : Dev nD) (j : Fin 1024) (h : Fin 8) (e : Fin 128) : EReal := (m ((c : Thread nD τ).loc main_arg2) : S4x1024x32x128.Idx → EReal) (ix4 c j (hdF g h) e)
def vA (g : Dev nD) (j : Fin 1024) (h : Fin 8) (e : Fin 128) : EReal := (m ((c : Thread nD τ).loc main_arg3) : S4x1024x32x128.Idx → EReal) (ix4 c j (hdF g h) e)

theorem qR_at (s : Fin 4) (r : Fin 1024) (h : Fin 8) (e : Fin 128) (n : Fin 1024) (hn : n.val = 128 * h.val + e.val) :
    qR m c (V m c main_v1) s (ix2 r n) = kq (xA m c) (wA m (peer c s)) h (prF r) e := by
  obtain rfl : n = ⟨128 * h.val + e.val, colLt h e⟩ := Fin.ext hn
  refine (pay42_at _ _ r _).trans (congrArg (· * kap) (Finset.sum_congr rfl fun d _ => ?_))
  rw [xpR_at, wsl0_at]
  rfl

theorem hdP_at (s : Fin 4) (h : Fin 8) (p : Fin 4) (a : Fin 256) (e : Fin 128) :
    hdP m c (V m c main_v1) s h (ix3 0 ⟨p.val * 256 + a.val, by omega⟩ e)
      = kctx (xA m c) (wA m (peer c s)) (kA m c (peer c s)) (vA m c (peer c s)) p h (keyF p a) e := by
  refine (pay89_at _ _ _ p a e).trans ?_
  have hs : ∀ b : Fin 256, (∑ k : Fin 128, shapeCast S4x256x128 (extractStridedSlice S1024x128 ![0, 128 * h.val] (qR m c (V m c main_v1) s) (by revert h; decide)) shapeCasts_S1024x128_S4x256x128 (ix3 p a k)
      * View.readAt (Elt Ideal) khM.view (Rect.unit (s := S8x1024x128) ![h.val, 0, 0] S1x1024x128.size (by revert h; decide)).toLoadRect (hdC (V m c main_arg2) c (peer c s)) (ix3 0 ⟨p.val * 256 + b.val, by omega⟩ k))
      = ksc (xA m c) (wA m (peer c s)) (kA m c (peer c s)) h (keyF p a) (keyF p b) := by
    intro b
    refine Finset.sum_congr rfl fun k _ => ?_
    rw [cols_at, qR_at m c s _ h k _ rfl]
    exact congrArg (_ * ·) ((kh_at c (V m c main_arg2) (peer c s) h _ k).trans (congrFun (V_main_arg2 m c) _))
  refine Finset.sum_congr rfl fun b _ => ?_
  refine congrArg₂ (· * ·) (congrArg₂ Ideal.div (congrArg Ideal.exp (hs b)) (Finset.sum_congr rfl fun b' _ => congrArg Ideal.exp (hs b'))) ?_
  exact (vh_at c (V m c main_arg3) (peer c s) h _ e).trans (congrFun (V_main_arg3 m c) _)

theorem rdt_at (f : S4x1024x1024.Idx → EReal) (s : Fin 4) (h) (r k : Fin 1024) :
    View.readAt (Elt Ideal) ctM.view (Rect.unit (s := S4x1024x1024) ![s.val, 0, 0] S1x1024x1024.size h).toLoadRect f (ix3 0 r k) = f (ix3 s r k) := by
  refine congrArg f (funext fun a => Fin.ext ?_)
  revert a
  refine Fin.cases ?_ (Fin.cases ?_ (Fin.cases ?_ (fun k => k.elim0)))
  · rfl
  · show 0 + 1 * r.val = r.val; omega
  · show 0 + 1 * k.val = k.val; omega

theorem ctS_at (s : Fin 4) (p : Fin 4) (a : Fin 256) (r k : Fin 1024) (hr : r.val = p.val * 256 + a.val) :
    ctS m c (V m c main_v1) s (ix3 0 r k)
      = kctx (xA m c) (wA m (peer c s)) (kA m c (peer c s)) (vA m c (peer c s)) p ⟨k.val / 128, by omega⟩ (keyF p a) ⟨k.val % 128, by omega⟩ := by
  obtain rfl : r = ⟨p.val * 256 + a.val, rowLt p a⟩ := Fin.ext hr
  refine (rdt_at (ctC m c (V m c main_v1)) s _ _ k).trans ?_
  unfold ctC
  exact (congrArg _ (ix3_eq_valueIdx _ _ _).symm).trans (hdP_at m c s ⟨k.val / 128, by omega⟩ p a ⟨k.val % 128, by omega⟩)

/-- Slot `s`'s term of the result. -/
def kout (s : Fin 4) (p : Fin 4) (i n : Fin 1024) : EReal :=
  ∑ k : Fin 1024, kctx (xA m c) (wA m (peer c s)) (kA m c (peer c s)) (vA m c (peer c s)) p ⟨k.val / 128, by omega⟩ i ⟨k.val % 128, by omega⟩ * oA m (peer c s) k n

theorem ptO_at (s : Fin 4) (i n : Fin 1024) : ptO m c (V m c main_v1) s (ix3 0 i n) = kout m c s ⟨i.val / 64 % 4, by omega⟩ i n := by
  show ptR m c (V m c main_v1) s (ValueIdx.ix2 (unF i) n) = _
  refine (congrArg _ (ix2_eq_valueIdx (unF i) n).symm).trans ?_
  refine (pay90_at _ _ (unF i) n).trans (Finset.sum_congr rfl fun k _ => ?_)
  have hu : (unF i).val = i.val / 64 % 4 * 256 + (64 * (i.val / 64 / 4) + i.val % 64) := by
    show 256 * (i.val / 64 % 4) + 64 * (i.val / 64 / 4) + i.val % 64 = _; omega
  have hk : keyF ⟨i.val / 64 % 4, by omega⟩ ⟨64 * (i.val / 64 / 4) + i.val % 64, by omega⟩ = i :=
    Fin.ext ((congrArg prm hu.symm).trans (prm_unp i.isLt))
  rw [wsl1_at, ctS_at m c s ⟨i.val / 64 % 4, by omega⟩ ⟨64 * (i.val / 64 / 4) + i.val % 64, by omega⟩ (unF i) k hu, hk]
  rfl

theorem res_at (i n : Fin 1024) : res m c (ix3 0 i n) = ∑ s : Fin 4, kout m c s ⟨i.val / 64 % 4, by omega⟩ i n := by
  rw [Fin.sum_univ_four, ← ptO_at, ← ptO_at, ← ptO_at, ← ptO_at]
  rfl

end Cert.KProof

end
-- ==== Proof.RefMask.lean ====
module

public import proofs.«01_k».proof.Proof.Gen.ReferenceIdeal.Read
public import Idealize.ShloMosaic.Lib.Pointwise
public import Idealize.ShloMosaic.PureOps.Reduce

/-! The reference's mask at an index: a key is kept where its block's residue is the row's. -/

@[expose] public section

noncomputable section

namespace Cert.RefVal

open Cert.ReferenceIdeal Cert.ReferenceIdeal.Gen Cert.ReferenceIdeal.Read
open Idealize.ShloMosaic

set_option maxRecDepth 100000

theorem v3_at : ∀ i : Fin 1024, val_main_v3 (F := Ideal) (ix1 i) = BitVec.ofNat 32 (i.val / 64) := by decide +kernel

theorem v6_at (i : Fin 1024) : val_main_v6 (F := Ideal) (ix1 i) = BitVec.ofNat 32 (i.val / 64) := v3_at i

theorem v11_at : ∀ j : Fin 1024, val_main_v11 (F := Ideal) (ix2 0 j) = BitVec.ofNat 32 (j.val / 64 % 4) := by decide +kernel
theorem v12_at : ∀ j : Fin 1024, val_main_v12 (F := Ideal) (ix2 j 0) = BitVec.ofNat 32 (j.val / 64 % 4) := by decide +kernel

theorem words (a b : Fin 16) : IntOp.ori (IntOp.cmpi .eq (BitVec.ofNat 32 a.val) (BitVec.ofNat 32 b.val)) (IntOp.cmpi .eq (BitVec.ofNat 32 (b.val % 4)) (BitVec.ofNat 32 (a.val % 4)))
    = if b.val % 4 = a.val % 4 then 1#1 else 0#1 := by revert a b; decide +kernel

/-- The residue of row `i`'s block. -/
def cls (i : Fin 1024) : ℕ := i.val / 64 % 4

theorem v16_at (i j : Fin 1024) : val_main_v16 (F := Ideal) (ix2 i j) = if cls j = cls i then 1#1 else 0#1 := by
  have e8 : idx_main_v4 (idx_main_v8 (ix2 i j)) = ix1 i := eq_ix1 _
  have e9 : idx_main_v7 (idx_main_v9 (ix2 i j)) = ix1 j := eq_ix1 _
  have e13 : idx_main_v13 (ix2 i j) = ix2 0 j := eq_ix2 _
  have e14 : idx_main_v14 (ix2 i j) = ix2 i 0 := eq_ix2 _
  rw [val_main_v16_apply, val_main_v10_apply, val_main_v15_apply, val_main_v8_apply, val_main_v9_apply, val_main_v4_apply, val_main_v7_apply,
    val_main_v13_apply, val_main_v14_apply, e8, e9, e13, e14, v3_at, v6_at, v11_at, v12_at]
  exact words ⟨i.val / 64, by omega⟩ ⟨j.val / 64, by omega⟩

theorem fold_ori {ι : Type} [DecidableEq ι] (s : Finset ι) (f : ι → BitVec 1) (x : ι) (hx : x ∈ s) (h : f x = 1#1) : s.fold IntOp.ori 0#1 f = 1#1 := by
  have e : ∀ y : BitVec 1, IntOp.ori 1#1 y = 1#1 := by decide
  rw [← Finset.insert_erase hx, Finset.fold_insert (Finset.notMem_erase x s), h, e]

/-- Every row keeps some key: itself. -/
theorem v27_at (i : Fin 1024) : val_main_v27 (F := Ideal) (ix1 i) = 1#1 := by
  unfold val_main_v27
  refine (Host.reduce_eq_fold_single IntOp.ori (val_main_v16 (F := Ideal)) (val_main_c_5 (F := Ideal)) reducesTo_S1024x1024_S1024_d1 (by decide) h_S_ (ix1 i)).trans ?_
  refine fold_ori _ _ i (Finset.mem_univ _) ?_
  refine (congrArg (val_main_v16 (F := Ideal)) (eq_ix2 _)).trans ((v16_at i i).trans (if_pos rfl))

theorem fold_max {ι : Type} [DecidableEq ι] (s : Finset ι) (f : ι → EReal) (b : EReal) :
    (∀ x ∈ s, f x ≤ s.fold max b f) ∧ (s.fold max b f = b ∨ ∃ x, s.fold max b f = f x) := by
  induction s using Finset.induction_on with
  | empty => exact ⟨fun x hx => absurd hx (Finset.notMem_empty x), Or.inl rfl⟩
  | insert a s ha ih =>
    rw [Finset.fold_insert ha]
    refine ⟨fun x hx => ?_, ?_⟩
    · obtain rfl | hx := Finset.mem_insert.mp hx
      · exact le_max_left _ _
      · exact (ih.1 x hx).trans (le_max_right _ _)
    · obtain h | h := max_choice (f a) (s.fold max b f)
      · exact Or.inr ⟨a, h⟩
      · rw [h]; exact ih.2

end Cert.RefVal

end
-- ==== Proof.Soft.lean ====
module

public import Idealize.ShloMosaic.Lib.Pointwise

/-! Weighted means over the extended reals: dropping the keys a mask rules out, and the shift by the maximum, leave the mean. -/

@[expose] public section

noncomputable section

namespace Cert.Soft

open Idealize.ShloMosaic

theorem exp_coe (r : ℝ) : Ideal.exp (r : EReal) = (Real.exp r : EReal) := rfl
theorem exp_bot : Ideal.exp ⊥ = 0 := rfl

theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

theorem coe_sum {ι : Type} [Fintype ι] (f : ι → ℝ) : (∑ i, (f i : EReal)) = ((∑ i, f i : ℝ) : EReal) :=
  (map_sum (⟨⟨fun x : ℝ => (x : EReal), EReal.coe_zero⟩, EReal.coe_add⟩ : ℝ →+ EReal) f Finset.univ).symm

/-- The scores with those outside the mask at `-∞`. -/
def masked {n : ℕ} (s : Fin n → ℝ) (c : Fin n → Prop) [DecidablePred c] (j : Fin n) : EReal := if c j then (s j : EReal) else ⊥

/-- A maximum of the masked scores, one of which is kept, is a real. -/
theorem max_coe {n : ℕ} (s : Fin n → ℝ) (c : Fin n → Prop) [DecidablePred c] (j₀ : Fin n) (h₀ : c j₀) (M : EReal)
    (hge : ∀ j, masked s c j ≤ M) (hmem : M = ⊥ ∨ ∃ j, M = masked s c j) : ∃ μ : ℝ, M = (μ : EReal) := by
  have h1 : ((s j₀ : ℝ) : EReal) ≤ M := by have := hge j₀; unfold masked at this; rwa [if_pos h₀] at this
  have h2 : M ≠ ⊥ := fun e => by rw [e] at h1; exact EReal.coe_ne_bot _ (le_bot_iff.mp h1)
  obtain e | ⟨j, e⟩ := hmem
  · exact absurd e h2
  · unfold masked at e
    split at e
    · exact ⟨_, e⟩
    · exact absurd e h2

/-- The weight of key `j` under the mask, the scores shifted by `M`. -/
theorem weight_coe {n : ℕ} (s : Fin n → ℝ) (c : Fin n → Prop) [DecidablePred c] (μ : ℝ) (j : Fin n) :
    Ideal.exp (masked s c j - (μ : EReal)) = (((if c j then Real.exp (s j) else 0) * Real.exp (-μ) : ℝ) : EReal) := by
  unfold masked
  split
  · rw [← EReal.coe_sub, exp_coe, ← Real.exp_add, sub_eq_add_neg]
  · rw [EReal.bot_sub, exp_bot, zero_mul, EReal.coe_zero]

/-- The masked mean over all keys is the mean over the kept keys, `k` listing them. -/
theorem mean_eq {n l : ℕ} (s : Fin n → ℝ) (c : Fin n → Prop) [DecidablePred c] (k : Fin l → Fin n) (hinj : Function.Injective k)
    (hk : ∀ j, c j ↔ ∃ b, k b = j) (b₀ : Fin l) (M : EReal) (hge : ∀ j, masked s c j ≤ M) (hmem : M = ⊥ ∨ ∃ j, M = masked s c j) (v : Fin n → EReal) :
    ∑ j, v j * Ideal.div (Ideal.exp (masked s c j - M)) (0 + ∑ j', Ideal.exp (masked s c j' - M))
      = ∑ b, Ideal.div (Ideal.exp (s (k b) : EReal)) (∑ b', Ideal.exp (s (k b') : EReal)) * v (k b) := by
  obtain ⟨μ, rfl⟩ := max_coe s c (k b₀) ((hk _).mpr ⟨b₀, rfl⟩) M hge hmem
  have hre : ∀ {β : Type} [AddCommMonoid β] (f : Fin n → β), (∀ j, ¬ c j → f j = 0) → ∑ j, f j = ∑ b, f (k b) := by
    intro β _ f hf
    rw [← Finset.sum_image (s := Finset.univ) (g := k) (f := f) fun a _ b _ h => hinj h]
    refine (Finset.sum_subset (Finset.subset_univ _) fun j _ hj => hf j fun hc => hj ?_).symm
    obtain ⟨b, rfl⟩ := (hk j).mp hc
    exact Finset.mem_image_of_mem _ (Finset.mem_univ _)
  have hpos : 0 < ∑ b, Real.exp (s (k b)) := Finset.sum_pos (fun b _ => Real.exp_pos _) ⟨b₀, Finset.mem_univ _⟩
  have hs : ∑ j, Ideal.exp (masked s c j - (μ : EReal)) = (((∑ b, Real.exp (s (k b))) * Real.exp (-μ) : ℝ) : EReal) := by
    rw [Finset.sum_congr rfl fun j _ => weight_coe s c μ j, coe_sum, ← Finset.sum_mul]
    congr 2
    rw [hre _ fun j hj => if_neg hj]
    exact Finset.sum_congr rfl fun b _ => if_pos ((hk _).mpr ⟨b, rfl⟩)
  have hs' : ∑ b', Ideal.exp (s (k b') : EReal) = ((∑ b, Real.exp (s (k b)) : ℝ) : EReal) := coe_sum fun b => Real.exp (s (k b))
  rw [zero_add, hs, hs']
  have hne : (∑ b, Real.exp (s (k b))) * Real.exp (-μ) ≠ 0 := (mul_pos hpos (Real.exp_pos _)).ne'
  rw [hre _ fun j hj => by
    rw [weight_coe, if_neg hj, div_coe _ _ hne, zero_mul, zero_div, EReal.coe_zero, mul_zero]]
  refine Finset.sum_congr rfl fun b _ => ?_
  rw [weight_coe, if_pos ((hk _).mpr ⟨b, rfl⟩), div_coe _ _ hne, exp_coe, div_coe _ _ hpos.ne', mul_comm,
    mul_div_mul_right _ _ (Real.exp_pos _).ne']

/-- A score of reals, scaled before the product or after. -/
theorem score_coe {n l : ℕ} (x : Fin n → ℝ) (w : Fin n → Fin l → ℝ) (k : Fin l → ℝ) (κ : ℝ) :
    (∑ e, ((∑ d, (x d : EReal) * (w d e : EReal)) * (κ : EReal)) * (k e : EReal)) = ((((∑ e, (∑ d, x d * w d e) * k e) * κ : ℝ)) : EReal)
    ∧ (∑ e, (∑ d, (x d : EReal) * (w d e : EReal)) * (k e : EReal)) * (κ : EReal) = ((((∑ e, (∑ d, x d * w d e) * k e) * κ : ℝ)) : EReal) := by
  have h : ∀ e, (∑ d, (x d : EReal) * (w d e : EReal)) = ((∑ d, x d * w d e : ℝ) : EReal) := fun e =>
    (Finset.sum_congr rfl fun d _ => (EReal.coe_mul _ _).symm).trans (coe_sum fun d => x d * w d e)
  constructor
  · rw [Finset.sum_mul, ← coe_sum]
    refine Finset.sum_congr rfl fun e _ => ?_
    rw [h, ← EReal.coe_mul, ← EReal.coe_mul, mul_right_comm]
  · rw [EReal.coe_mul, ← coe_sum]
    congr 1
    refine Finset.sum_congr rfl fun e _ => ?_
    rw [h, ← EReal.coe_mul]

/-- `a × b` terms summed row by row. -/
theorem sum_rows {β : Type} [AddCommMonoid β] (f : Fin 4096 → β) :
    ∑ n, f n = ∑ g : Fin 4, ∑ k : Fin 1024, f ⟨1024 * g.val + k.val, by omega⟩ := by
  rw [← Fintype.sum_prod_type', ← (finProdFinEquiv (m := 4) (n := 1024)).sum_comp]
  refine Finset.sum_congr rfl fun x _ => congrArg f (Fin.ext ?_)
  show x.2.val + 1024 * x.1.val = 1024 * x.1.val + x.2.val
  omega

end Cert.Soft

end
-- ==== Proof.RefVal.lean ====
module

public import proofs.«01_k».proof.Proof.RefMask
public import proofs.«01_k».proof.Proof.Soft
public import proofs.«01_k».proof.Proof.Pays

/-! The reference's result over the extended reals, read at an index: the masked mean over all keys, and the mean over the kept keys. -/

@[expose] public section

noncomputable section

namespace Cert.RefVal

set_option maxRecDepth 100000

open Cert.ReferenceIdeal Cert.ReferenceIdeal.Gen Cert.ReferenceIdeal.Read
open Idealize.ShloMosaic
open Cert.KPays (kap)
open Cert.Soft (masked)

theorem kap_coe : ∃ κ : ℝ, kap = (κ : EReal) := by
  have e : kap = Ideal.ieee 8 23 (0x3DB504F3#32) := rfl
  unfold Ideal.ieee at e
  rw [e]
  refine ⟨_, (if_neg (by decide)).trans (if_neg (by decide))⟩

theorem bot_word : Ideal.ofBits .f32 0xFF800000#32 = ⊥ := by simp [Ideal.ofBits, Ideal.ieee]

variable (x0 : S4x1024x1024.Idx → EReal) (x1 : S1024x4096.Idx → EReal) (x2 x3 : S4x1024x32x128.Idx → EReal) (x4 : S4096x1024.Idx → EReal)

theorem qLt (h : Fin 32) (e : Fin 128) : 128 * h.val + e.val < 4096 := by omega

theorem v1_at (c : Fin 4) (i : Fin 1024) (h : Fin 32) (e : Fin 128) :
    val_main_v1 (F := Ideal) x0 x1 (ix4 c i h e) = ∑ d : Fin 1024, x0 (ix3 c i d) * x1 (ix2 d ⟨128 * h.val + e.val, qLt h e⟩) := by
  have e1 : idx_main_v1 (ix4 c i h e) = ix3 c i ⟨128 * h.val + e.val, qLt h e⟩ := by
    refine (eq_ix3 _).trans ?_
    have a0 : (idx_main_v1 (ix4 c i h e)) 0 = c := Fin.ext (by
      show (((c.val * 1024 + i.val) * 32 + h.val) * 128 + e.val) / 4194304 = c.val; omega)
    have a1 : (idx_main_v1 (ix4 c i h e)) 1 = i := Fin.ext (by
      show (((c.val * 1024 + i.val) * 32 + h.val) * 128 + e.val) / 4096 % 1024 = i.val; omega)
    have a2 : (idx_main_v1 (ix4 c i h e)) 2 = ⟨128 * h.val + e.val, qLt h e⟩ := Fin.ext (by
      show (((c.val * 1024 + i.val) * 32 + h.val) * 128 + e.val) % 4096 = 128 * h.val + e.val; omega)
    exact congr (congr (congrArg ix3 a0) a1) a2
  rw [val_main_v1_apply, e1, val_main_v0_apply]
  refine Finset.sum_congr rfl fun d _ => ?_
  exact congrArg₂ (· * ·) (congrArg x0 (eq_ix3 _)) (congrArg x1 (eq_ix2 _))

/-- The score of key `j` for row `i`. -/
def rsc (c : Fin 4) (h : Fin 32) (i j : Fin 1024) : EReal :=
  (∑ e : Fin 128, (∑ d : Fin 1024, x0 (ix3 c i d) * x1 (ix2 d ⟨128 * h.val + e.val, qLt h e⟩)) * x2 (ix4 c j h e)) * kap

theorem v19_at (c : Fin 4) (h : Fin 32) (i j : Fin 1024) : val_main_v19 (F := Ideal) x0 x1 x2 (ix4 c h i j) = rsc x0 x1 x2 c h i j := by
  rw [val_main_v19_apply, val_main_v17_apply, val_main_v18_apply, val_main_cst_apply]
  refine congrArg (· * kap) (Finset.sum_congr rfl fun e _ => ?_)
  exact congrArg₂ (· * ·) ((congrArg (val_main_v1 (F := Ideal) x0 x1) (eq_ix4 _)).trans (v1_at x0 x1 c i h e)) (congrArg x2 (eq_ix4 _))

theorem v21_at (c : Fin 4) (h : Fin 32) (i j : Fin 1024) :
    val_main_v21 (F := Ideal) x0 x1 x2 (ix4 c h i j) = if cls j = cls i then rsc x0 x1 x2 c h i j else ⊥ := by
  have e1 : idx_main_v20 (idx_main_call4_v1 (ix4 c h i j)) = ix2 i j := eq_ix2 _
  rw [val_main_v21_apply, val_main_call4_v1_apply, val_main_v20_apply, e1, v16_at, v19_at, val_main_call4_v2_apply, val_main_call4_v0_apply, val_main_cst_3_apply,
    Ideal.ofBits_def, bot_word]
  split <;> rfl

/-- The maximum of row `i`'s masked scores. -/
def rmax (c : Fin 4) (h : Fin 32) (i : Fin 1024) : EReal := val_main_v22 (F := Ideal) x0 x1 x2 (ix3 c h i)

theorem rmax_spec (c : Fin 4) (h : Fin 32) (i : Fin 1024) :
    (∀ j : Fin 1024, val_main_v21 (F := Ideal) x0 x1 x2 (ix4 c h i j) ≤ rmax x0 x1 x2 c h i)
      ∧ (rmax x0 x1 x2 c h i = ⊥ ∨ ∃ j : Fin 1024, rmax x0 x1 x2 c h i = val_main_v21 (F := Ideal) x0 x1 x2 (ix4 c h i j)) := by
  have e : rmax x0 x1 x2 c h i = (Finset.univ : Finset (Fin 1024)).fold max ⊥ (fun j => val_main_v21 (F := Ideal) x0 x1 x2 (ix4 c h i j)) := by
    unfold rmax val_main_v22
    generalize val_main_v21 (F := Ideal) x0 x1 x2 = y
    refine (Host.reduce_eq_fold_single (FloatOps.maximumf (F := Ideal) (φ := .f32)) y (val_main_cst_4 (F := Ideal)) reducesTo_S4x32x1024x1024_S4x32x1024_d3 (by decide) h_S_ (ix3 c h i)).trans ?_
    rw [val_main_cst_4_apply, Ideal.ofBits_def, bot_word]
    refine congrArg (Finset.fold _ _ · _) (funext fun j => congrArg y ?_)
    exact eq_ix4 _
  rw [e]
  have h := fold_max Finset.univ (fun j => val_main_v21 (F := Ideal) x0 x1 x2 (ix4 c h i j)) ⊥
  exact ⟨fun j => h.1 j (Finset.mem_univ j), h.2⟩

theorem v26_at (c : Fin 4) (h : Fin 32) (i j : Fin 1024) :
    val_main_v26 (F := Ideal) x0 x1 x2 (ix4 c h i j) = Ideal.exp (val_main_v21 (F := Ideal) x0 x1 x2 (ix4 c h i j) - rmax x0 x1 x2 c h i) := by
  have e1 : idx_main_v23 (idx_main_v24 (ix4 c h i j)) = ix3 c h i := eq_ix3 _
  rw [val_main_v26_apply, val_main_v25_apply, val_main_v24_apply, val_main_v23_apply, e1]
  rfl

theorem v35_at (c : Fin 4) (h : Fin 32) (i j : Fin 1024) :
    val_main_v35 (F := Ideal) x0 x1 x2 (ix4 c h i j)
      = Ideal.div (Ideal.exp (val_main_v21 (F := Ideal) x0 x1 x2 (ix4 c h i j) - rmax x0 x1 x2 c h i))
          (0 + ∑ j' : Fin 1024, Ideal.exp (val_main_v21 (F := Ideal) x0 x1 x2 (ix4 c h i j') - rmax x0 x1 x2 c h i)) := by
  have e1 : idx_main_v34 (idx_main_call6_v1 (ix4 c h i j)) = ix1 i := eq_ix1 _
  have e2 : idx_main_v28 (idx_main_call5_v1 (idx_main_v32 (ix4 c h i j))) = ix1 i := eq_ix1 _
  have e3 : idx_main_v30 (idx_main_v32 (ix4 c h i j)) = ix3 c h i := eq_ix3 _
  have e4 : ∀ k : Fin 1024, idx_main_v29 (ix3 c h i) k = ix4 c h i k := fun k => eq_ix4 _
  have s1 : ∀ (u v : EReal), Scalar.select (1#1) u v = u := fun u v => rfl
  rw [val_main_v35_apply, val_main_call6_v1_apply, val_main_v34_apply, e1, v27_at, val_main_v33_apply, val_main_v32_apply, val_main_v31_apply, val_main_call5_v1_apply,
    val_main_v28_apply, e2, v27_at, val_main_v30_apply, e3, val_main_v29_apply, val_main_cst_6_apply, Ideal.ofBits_def, Ideal.ofBits_zero_f32, v26_at]
  refine congrArg (Ideal.div _) (congrArg (0 + ·) (Finset.sum_congr rfl fun k _ => ?_))
  rw [e4, v26_at]

theorem v38_at (c : Fin 4) (i : Fin 1024) (N : Fin 4096) :
    val_main_v38 (F := Ideal) x0 x1 x2 x3 (ix3 c i N)
      = ∑ j : Fin 1024, x3 (ix4 c j ⟨N.val / 128, by omega⟩ ⟨N.val % 128, by omega⟩) * val_main_v35 (F := Ideal) x0 x1 x2 (ix4 c ⟨N.val / 128, by omega⟩ i j) := by
  have e1 : idx_main_v38 (ix3 c i N) = ix4 c i ⟨N.val / 128, by omega⟩ ⟨N.val % 128, by omega⟩ := by
    refine (eq_ix4 _).trans ?_
    have a0 : (idx_main_v38 (ix3 c i N)) 0 = c := Fin.ext (by
      show ((c.val * 1024 + i.val) * 4096 + N.val) / 4194304 = c.val; omega)
    have a1 : (idx_main_v38 (ix3 c i N)) 1 = i := Fin.ext (by
      show ((c.val * 1024 + i.val) * 4096 + N.val) / 4096 % 1024 = i.val; omega)
    have a2 : (idx_main_v38 (ix3 c i N)) 2 = (⟨N.val / 128, by omega⟩ : Fin 32) := Fin.ext (by
      show ((c.val * 1024 + i.val) * 4096 + N.val) / 128 % 32 = N.val / 128; omega)
    have a3 : (idx_main_v38 (ix3 c i N)) 3 = (⟨N.val % 128, by omega⟩ : Fin 128) := Fin.ext (by
      show ((c.val * 1024 + i.val) * 4096 + N.val) % 128 = N.val % 128; omega)
    exact congr (congr (congr (congrArg ix4 a0) a1) a2) a3
  have e2 : idx_main_v37 (ix4 c i ⟨N.val / 128, by omega⟩ ⟨N.val % 128, by omega⟩) = ix4 c ⟨N.val / 128, by omega⟩ ⟨N.val % 128, by omega⟩ i := eq_ix4 _
  rw [val_main_v38_apply, e1, val_main_v37_apply, e2, val_main_v36_apply]
  refine Finset.sum_congr rfl fun j _ => ?_
  exact congrArg₂ (· * ·) (congrArg x3 (eq_ix4 _)) (congrArg (val_main_v35 (F := Ideal) x0 x1 x2) (eq_ix4 _))

theorem v39_at (c : Fin 4) (i n : Fin 1024) :
    val_main_v39 (F := Ideal) x0 x1 x2 x3 x4 (ix3 c i n) = ∑ N : Fin 4096, val_main_v38 (F := Ideal) x0 x1 x2 x3 (ix3 c i N) * x4 (ix2 N n) := by
  rw [val_main_v39_apply]
  refine Finset.sum_congr rfl fun N _ => ?_
  exact congrArg₂ (· * ·) (congrArg (val_main_v38 (F := Ideal) x0 x1 x2 x3) (eq_ix3 _)) (congrArg x4 (eq_ix2 _))

/-- With real scores the context is the mean over the row's class, `key` listing it. -/
theorem ctx_at (c : Fin 4) (i : Fin 1024) (N : Fin 4096) (s : Fin 1024 → ℝ) (hs : ∀ j, rsc x0 x1 x2 c ⟨N.val / 128, by omega⟩ i j = (s j : EReal))
    (key : Fin 256 → Fin 1024) (hinj : Function.Injective key) (hk : ∀ j, cls j = cls i ↔ ∃ b, key b = j) :
    val_main_v38 (F := Ideal) x0 x1 x2 x3 (ix3 c i N)
      = ∑ b : Fin 256, Ideal.div (Ideal.exp (s (key b) : EReal)) (∑ b' : Fin 256, Ideal.exp (s (key b') : EReal)) * x3 (ix4 c (key b) ⟨N.val / 128, by omega⟩ ⟨N.val % 128, by omega⟩) := by
  have hm : ∀ j, val_main_v21 (F := Ideal) x0 x1 x2 (ix4 c ⟨N.val / 128, by omega⟩ i j) = masked s (fun j => cls j = cls i) j := fun j => by
    rw [v21_at, hs]; rfl
  have hM := rmax_spec x0 x1 x2 c ⟨N.val / 128, by omega⟩ i
  rw [v38_at, ← Soft.mean_eq s (fun j => cls j = cls i) key hinj hk 0 (rmax x0 x1 x2 c ⟨N.val / 128, by omega⟩ i)
    (fun j => hm j ▸ hM.1 j) (hM.2.imp_right fun ⟨j, e⟩ => ⟨j, e.trans (hm j)⟩)
    (fun j => x3 (ix4 c j ⟨N.val / 128, by omega⟩ ⟨N.val % 128, by omega⟩))]
  refine Finset.sum_congr rfl fun j _ => ?_
  rw [v35_at]
  simp only [hm]

end Cert.RefVal

end
-- ==== Proof.Same.lean ====
module

public import proofs.«01_k».proof.Proof.KVal
public import proofs.«01_k».proof.Proof.RefVal

/-! The kernel's result is the reference's, on finite `x`, `Wq` and `K_ext`. -/

@[expose] public section

noncomputable section

set_option maxRecDepth 100000

namespace Cert.Same

open Idealize.ShloMosaic
open Cert.KPays (kap)
open Cert.KProof Cert.RefVal

/-! ## The keys of a row's class -/

theorem keyF_inj (p : Fin 4) : Function.Injective (keyF p) := fun a b e => by
  have h : prm (p.val * 256 + a.val) = prm (p.val * 256 + b.val) := congrArg Fin.val e
  have h' := congrArg unp h
  rw [unp_prm (by omega), unp_prm (by omega)] at h'
  exact Fin.ext (by omega)

theorem keyF_range (i j : Fin 1024) : cls j = cls i ↔ ∃ b, keyF ⟨i.val / 64 % 4, by omega⟩ b = j := by
  unfold cls
  constructor
  · intro h
    refine ⟨⟨unp j.val % 256, by omega⟩, Fin.ext ?_⟩
    show prm (i.val / 64 % 4 * 256 + unp j.val % 256) = j.val
    have e : i.val / 64 % 4 * 256 + unp j.val % 256 = unp j.val := by unfold unp; omega
    rw [e, prm_unp j.isLt]
  · rintro ⟨b, rfl⟩
    show prm (i.val / 64 % 4 * 256 + b.val) / 64 % 4 = i.val / 64 % 4
    unfold prm; omega

/-! ## The devices round a device -/

theorem peer_bij : ∀ c : Fin 4, Function.Bijective (peer c) := by decide

/-! ## The result -/

section

variable (m : (ℓ : Loc Cert.KernelIdeal.nD Cert.KernelIdeal.τ Cert.KernelIdeal.sig) → Buf (Elt Ideal) ℓ)
variable (x0 : Cert.ReferenceIdeal.S4x1024x1024.Idx → EReal) (x1 : Cert.ReferenceIdeal.S1024x4096.Idx → EReal)
variable (x2 x3 : Cert.ReferenceIdeal.S4x1024x32x128.Idx → EReal) (x4 : Cert.ReferenceIdeal.S4096x1024.Idx → EReal)

theorem rowLt (g : Fin 4) (k : Fin 1024) : 1024 * g.val + k.val < 4096 := by omega

/-- The kernel's arguments are the parts of the reference's. -/
structure Parts : Prop where
  x : ∀ c i d, xA m c i d = x0 (ix3 c i d)
  wq : ∀ g d n, wA m g d n = x1 (ix2 d ⟨1024 * g.val + n.val, rowLt g n⟩)
  k : ∀ c g j h e, kA m c g j h e = x2 (ix4 c j (hdF g h) e)
  v : ∀ c g j h e, vA m c g j h e = x3 (ix4 c j (hdF g h) e)
  wo : ∀ g k n, oA m g k n = x4 (ix2 ⟨1024 * g.val + k.val, rowLt g k⟩ n)

variable {m x0 x1 x2 x3 x4}

/-- The two programs' scores are one real. -/
theorem scores (hp : Parts m x0 x1 x2 x3 x4) (f0 : ∀ i, ∃ r : ℝ, x0 i = (r : EReal)) (f1 : ∀ i, ∃ r : ℝ, x1 i = (r : EReal)) (f2 : ∀ i, ∃ r : ℝ, x2 i = (r : EReal))
    (c g : Fin 4) (h : Fin 8) (i : Fin 1024) :
    ∃ s : Fin 1024 → ℝ, (∀ j, ksc (xA m c) (wA m g) (kA m c g) h i j = (s j : EReal)) ∧ ∀ j, rsc x0 x1 x2 c (hdF g h) i j = (s j : EReal) := by
  obtain ⟨κ, hκ⟩ := kap_coe
  choose r0 h0 using f0
  choose r1 h1 using f1
  choose r2 h2 using f2
  have key := fun j => Soft.score_coe (fun d => r0 (ix3 c i d)) (fun d (e : Fin 128) => r1 (ix2 d ⟨128 * (hdF g h).val + e.val, qLt (hdF g h) e⟩)) (fun e => r2 (ix4 c j (hdF g h) e)) κ
  refine ⟨fun j => (∑ e : Fin 128, (∑ d : Fin 1024, r0 (ix3 c i d) * r1 (ix2 d ⟨128 * (hdF g h).val + e.val, qLt (hdF g h) e⟩)) * r2 (ix4 c j (hdF g h) e)) * κ, fun j => ?_, fun j => ?_⟩
  rotate_left
  · refine Eq.trans ?_ (key j).2
    unfold rsc
    rw [hκ]
    simp only [h0, h1, h2]
  · refine Eq.trans ?_ (key j).1
    unfold ksc kq
    rw [hκ]
    refine Finset.sum_congr rfl fun e _ => ?_
    rw [hp.k, h2]
    refine congrArg (· * _) (congrArg (· * _) (Finset.sum_congr rfl fun d _ => ?_))
    have e1 : (⟨1024 * g.val + (128 * h.val + e.val), rowLt g ⟨128 * h.val + e.val, by omega⟩⟩ : Fin 4096) = ⟨128 * (hdF g h).val + e.val, qLt (hdF g h) e⟩ :=
      Fin.ext (by show 1024 * g.val + (128 * h.val + e.val) = 128 * (8 * g.val + h.val) + e.val; omega)
    rw [hp.x, hp.wq, h0, ← h1, ← e1]

theorem ctx_same (hp : Parts m x0 x1 x2 x3 x4) (f0 : ∀ i, ∃ r : ℝ, x0 i = (r : EReal)) (f1 : ∀ i, ∃ r : ℝ, x1 i = (r : EReal)) (f2 : ∀ i, ∃ r : ℝ, x2 i = (r : EReal))
    (c g : Fin 4) (i k : Fin 1024) :
    kctx (xA m c) (wA m g) (kA m c g) (vA m c g) ⟨i.val / 64 % 4, by omega⟩ ⟨k.val / 128, by omega⟩ i ⟨k.val % 128, by omega⟩
      = Cert.ReferenceIdeal.Read.val_main_v38 (F := Ideal) x0 x1 x2 x3 (ix3 c i ⟨1024 * g.val + k.val, rowLt g k⟩) := by
  obtain ⟨s, hs, ht⟩ := scores hp f0 f1 f2 c g ⟨k.val / 128, by omega⟩ i
  have eh : (⟨(1024 * g.val + k.val) / 128, by omega⟩ : Fin 32) = hdF g ⟨k.val / 128, by omega⟩ := Fin.ext (by
    show (1024 * g.val + k.val) / 128 = 8 * g.val + k.val / 128; omega)
  have ee : (⟨(1024 * g.val + k.val) % 128, by omega⟩ : Fin 128) = ⟨k.val % 128, by omega⟩ := Fin.ext (by
    show (1024 * g.val + k.val) % 128 = k.val % 128; omega)
  refine Eq.trans ?_ (ctx_at x0 x1 x2 x3 c i ⟨1024 * g.val + k.val, rowLt g k⟩ s (fun j => ?_) (keyF ⟨i.val / 64 % 4, by omega⟩) (keyF_inj _) (keyF_range i)).symm
  · unfold kctx
    simp only [hs]
    refine Finset.sum_congr rfl fun b _ => ?_
    rw [hp.v, ← eh, ← ee]
  · exact (congrArg (fun H => rsc x0 x1 x2 c H i j) eh).trans (ht j)

theorem res_same (hp : Parts m x0 x1 x2 x3 x4) (f0 : ∀ i, ∃ r : ℝ, x0 i = (r : EReal)) (f1 : ∀ i, ∃ r : ℝ, x1 i = (r : EReal)) (f2 : ∀ i, ∃ r : ℝ, x2 i = (r : EReal))
    (c : Fin 4) (i n : Fin 1024) :
    res m c (ix3 0 i n) = Cert.ReferenceIdeal.Read.val_main_v39 (F := Ideal) x0 x1 x2 x3 x4 (ix3 c i n) := by
  rw [res_at, v39_at, Soft.sum_rows]
  refine Eq.trans ?_ ((peer_bij c).sum_comp fun g => ∑ k : Fin 1024, Cert.ReferenceIdeal.Read.val_main_v38 (F := Ideal) x0 x1 x2 x3 (ix3 c i ⟨1024 * g.val + k.val, rowLt g k⟩) * x4 (ix2 ⟨1024 * g.val + k.val, rowLt g k⟩ n))
  refine Finset.sum_congr rfl fun s _ => Finset.sum_congr rfl fun k _ => ?_
  rw [ctx_same hp f0 f1 f2, hp.wo]

end

/-! ## The parts of an array -/

theorem blk_x (v : Cert.ReferenceIdeal.S4x1024x1024.Idx → EReal) (c : Fin 4) (i d : Fin 1024) :
    Layout.block ⟨3, ![1, 1024, 1024]⟩ ⟨3, ![4, 1024, 1024]⟩ 0 4 c v (by decide) (ix3 0 i d) = v (ix3 c i d) := by
  rw [Layout.block_apply]
  refine congrArg v (funext fun a => Fin.ext ?_)
  fin_cases a
  · show c.val * 1 + 0 = c.val; omega
  · rfl
  · rfl
theorem blk_wq (v : Cert.ReferenceIdeal.S1024x4096.Idx → EReal) (g : Fin 4) (d n : Fin 1024) :
    Layout.block ⟨2, ![1024, 1024]⟩ ⟨2, ![1024, 4096]⟩ 1 4 g v (by decide) (ix2 d n) = v (ix2 d ⟨1024 * g.val + n.val, rowLt g n⟩) := by
  rw [Layout.block_apply]
  refine congrArg v (funext fun a => Fin.ext ?_)
  fin_cases a
  · rfl
  · show g.val * 1024 + n.val = 1024 * g.val + n.val; omega
theorem blk_wo (v : Cert.ReferenceIdeal.S4096x1024.Idx → EReal) (g : Fin 4) (k n : Fin 1024) :
    Layout.block ⟨2, ![1024, 1024]⟩ ⟨2, ![4096, 1024]⟩ 0 4 g v (by decide) (ix2 k n) = v (ix2 ⟨1024 * g.val + k.val, rowLt g k⟩ n) := by
  rw [Layout.block_apply]
  refine congrArg v (funext fun a => Fin.ext ?_)
  fin_cases a
  · show g.val * 1024 + k.val = 1024 * g.val + k.val; omega
  · rfl

/-! ## What the precondition says -/

theorem real_of_lt (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  have lt : max x (-x) < ⊤ := by
    by_contra hn
    unfold Ideal.cmp at h
    simp only [decide_eq_false hn] at h
    exact absurd h (by decide)
  induction x using EReal.rec with
  | bot => simp at lt
  | top => simp at lt
  | coe r => exact ⟨r, rfl⟩

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import Idealize.ShloMosaic.Adequacy
public import Idealize.ShloMosaic.Init
public import proofs.«01_k».proof.Proof.Same

@[expose] public section

noncomputable section

namespace Cert.Proof

open Idealize.ShloMosaic Idealize.SL.Sem Cert.Kernel

/-- The run's arguments and counters, at any floats. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KProof.run_main m ρ)

theorem frame_KernelIdeal : Cert.quiescent_KernelIdeal := fun m ρ _ => frame_any (F := Ideal) m ρ
/-! The printed program is the idealized one at any floats: no operation was rewritten, so the run says its frame too. -/

set_option maxRecDepth 100000 in
theorem body_same : ∀ arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19, Cert.Kernel.cc0_body (F := Bits) arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 = Cert.KernelIdeal.cc0_body (F := Bits) arg0 harg0 arg1 harg1 arg2 harg2 arg3 harg3 arg4 harg4 arg5 harg5 arg6 harg6 arg7 harg7 arg8 harg8 arg9 harg9 arg10 harg10 arg11 harg11 arg12 arg13 arg14 arg15 arg16 arg17 arg18 arg19 := by
  intros; rfl
theorem bodies_same : Cert.Kernel.defs₀ (F := Bits) = Cert.KernelIdeal.defs₀ (F := Bits) := by
  refine congrArg Defs.onTc (funext fun l => funext fun a => ?_)
  match l, a with
  | 0, (t, s) => exact body_same ..
theorem defs_same : Cert.Kernel.defs (F := Bits) = Cert.KernelIdeal.defs (F := Bits) := congrArg (Pipeline.defs Cert.KernelIdeal.pcfgs) bodies_same

theorem frame_Kernel : Cert.quiescent_Kernel := fun m ρ _ => by
  have h := frame_any (F := Bits) m ρ
  rw [← defs_same] at h
  exact h
/-- The reference declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-! ## The values -/

theorem facts_pre : Cert.Pre_finite_KernelIdeal.Facts := ⟨by decide, by decide, by decide⟩
theorem facts_pre_ref : Cert.Pre_finite_ReferenceIdeal.Facts := ⟨by decide, by decide, by decide⟩

open Cert.Same

/-- From the reference's parts, with `x`, `Wq` and `K_ext` finite, the kernel ends with the parts of the reference's result. -/
theorem algebraic_claim : @Cert.algebraic_KernelIdeal_ReferenceIdeal_pre_finite_KernelIdeal _ _ facts_pre := fun m g m' g' hpre hin => by
  haveI := facts_pre
  generalize e0 : m' (((0 : Dev Cert.ReferenceIdeal.nD).tc : Thread Cert.ReferenceIdeal.nD Cert.ReferenceIdeal.τ).loc Cert.ReferenceIdeal.main_arg0) = x0 at hin
  generalize e1 : m' (((0 : Dev Cert.ReferenceIdeal.nD).tc : Thread Cert.ReferenceIdeal.nD Cert.ReferenceIdeal.τ).loc Cert.ReferenceIdeal.main_arg1) = x1 at hin
  generalize e2 : m' (((0 : Dev Cert.ReferenceIdeal.nD).tc : Thread Cert.ReferenceIdeal.nD Cert.ReferenceIdeal.τ).loc Cert.ReferenceIdeal.main_arg2) = x2 at hin
  generalize e3 : m' (((0 : Dev Cert.ReferenceIdeal.nD).tc : Thread Cert.ReferenceIdeal.nD Cert.ReferenceIdeal.τ).loc Cert.ReferenceIdeal.main_arg3) = x3 at hin
  generalize e4 : m' (((0 : Dev Cert.ReferenceIdeal.nD).tc : Thread Cert.ReferenceIdeal.nD Cert.ReferenceIdeal.τ).loc Cert.ReferenceIdeal.main_arg4) = x4 at hin
  have hp : Parts m x0 x1 x2 x3 x4 :=
    { x := fun c i d => (congrFun (hin c).1 (ix3 0 i d)).trans (blk_x x0 c i d)
      wq := fun g d n => (congrFun (hin g).2.1 (ix2 d n)).trans (blk_wq x1 g d n)
      k := fun c g j h e => congrFun (hin c).2.2.1 (ix4 c j (Cert.KProof.hdF g h) e)
      v := fun c g j h e => congrFun (hin c).2.2.2.1 (ix4 c j (Cert.KProof.hdF g h) e)
      wo := fun g k n => (congrFun (hin g).2.2.2.2 (ix2 k n)).trans (blk_wo x4 g k n) }
  have f0 : ∀ t, ∃ r : ℝ, x0 t = (r : EReal) := fun t => by
    obtain ⟨r, hr⟩ := real_of_lt _ (congrFun (hpre (t 0)).1 (ix3 0 (t 1) (t 2)))
    exact ⟨r, ((congrArg x0 (eq_ix3 t)).trans (hp.x (t 0) (t 1) (t 2)).symm).trans hr⟩
  have f1 : ∀ t, ∃ r : ℝ, x1 t = (r : EReal) := fun t => by
    have hN : (t 1).val < 4096 := (t 1).isLt
    obtain ⟨r, hr⟩ := real_of_lt _ (congrFun (hpre (⟨(t 1).val / 1024, by omega⟩ : Fin 4)).2.1 (ix2 (t 0) ⟨(t 1).val % 1024, by omega⟩))
    have et : t = ix2 (t 0) ⟨1024 * ((t 1).val / 1024) + (t 1).val % 1024, by omega⟩ := (eq_ix2 t).trans (congrArg (ix2 (t 0)) (Fin.ext (Nat.div_add_mod _ _).symm))
    exact ⟨r, ((congrArg x1 et).trans (hp.wq (⟨(t 1).val / 1024, by omega⟩ : Fin 4) (t 0) ⟨(t 1).val % 1024, by omega⟩).symm).trans hr⟩
  have f2 : ∀ t, ∃ r : ℝ, x2 t = (r : EReal) := fun t => by
    obtain ⟨r, hr⟩ := real_of_lt _ (congrFun (hpre (0 : Fin 4)).2.2 t)
    exact ⟨r, (congrFun (hin (0 : Fin 4)).2.2.1 t).symm.trans hr⟩
  refine ⟨Cert.ReferenceIdeal.Value.res_main_v39 m' 0, ?_, ?_⟩
  · refine (θ_run Cert.KernelIdeal.defs _ _).mono (fun r h c => ⟨((h.1 c).1).trans ?_, (h.1 c).2⟩) (Cert.KProof.run_main (F := Ideal) m g)
    rw [Cert.ReferenceIdeal.Read.val_main_v39_eq, e0, e1, e2, e3, e4]
    funext t
    have et : t = ix3 0 (t 1) (t 2) := (eq_ix3 t).trans (congrArg (fun a => ix3 a (t 1) (t 2)) (Subsingleton.elim (α := Fin 1) _ _))
    rw [et]
    exact (res_same hp f0 f1 f2 c (t 1) (t 2)).trans (blk_x _ c (t 1) (t 2)).symm
  · subst e0 e1 e2 e3 e4
    exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, facts_pre, facts_pre_ref,
  frame_Kernel, frame_KernelIdeal, fun m ρ _ => frame_KernelIdeal m ρ trivial, frame_ReferenceIdeal, fun m ρ _ => frame_ReferenceIdeal m ρ trivial, trivial, algebraic_claim⟩

end Cert.Proof

end
